-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v441) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x3x224x224 : Shape := ⟨4, ![2, 3, 224, 224]⟩
abbrev S64x3x3x3 : Shape := ⟨4, ![64, 3, 3, 3]⟩
abbrev S64 : Shape := ⟨1, ![64]⟩
abbrev S8x64x1x1 : Shape := ⟨4, ![8, 64, 1, 1]⟩
abbrev S8 : Shape := ⟨1, ![8]⟩
abbrev S64x27 : Shape := ⟨2, ![64, 27]⟩
abbrev S8x64 : Shape := ⟨2, ![8, 64]⟩
abbrev S64x1 : Shape := ⟨2, ![64, 1]⟩
abbrev S8x1 : Shape := ⟨2, ![8, 1]⟩
abbrev S_ : Shape := ⟨0, ![]⟩
abbrev S2x3x240x226 : Shape := ⟨4, ![2, 3, 240, 226]⟩
abbrev S1x3x240x226 : Shape := ⟨4, ![1, 3, 240, 226]⟩
abbrev S1x3x112x224 : Shape := ⟨4, ![1, 3, 112, 224]⟩
abbrev S1x3x128x226 : Shape := ⟨4, ![1, 3, 128, 226]⟩
abbrev S3x128x226 : Shape := ⟨3, ![3, 128, 226]⟩
abbrev S1x122x224 : Shape := ⟨3, ![1, 122, 224]⟩
abbrev S122x224 : Shape := ⟨2, ![122, 224]⟩
abbrev S27x122x224 : Shape := ⟨3, ![27, 122, 224]⟩
abbrev S64x122x224 : Shape := ⟨3, ![64, 122, 224]⟩
abbrev S64x1x1 : Shape := ⟨3, ![64, 1, 1]⟩
abbrev S8x122x224 : Shape := ⟨3, ![8, 122, 224]⟩
abbrev S8x1x1 : Shape := ⟨3, ![8, 1, 1]⟩
abbrev S122x4 : Shape := ⟨2, ![122, 4]⟩
abbrev S122x228 : Shape := ⟨2, ![122, 228]⟩
abbrev S122x6 : Shape := ⟨2, ![122, 6]⟩
abbrev S122x234 : Shape := ⟨2, ![122, 234]⟩
abbrev S112x224 : Shape := ⟨2, ![112, 224]⟩
abbrev S1x1x112x224 : Shape := ⟨4, ![1, 1, 112, 224]⟩

abbrev nBuf : Space → Nat
  | .hbm => 13
  | .vmem => 8
  | .smem => 0
  | _ => 0

abbrev bufTy : (tb : Table) → Fin (tcTables nBuf tb) → BufTy
  | .hbm, ⟨0, _⟩ => ⟨S2x3x224x224, .f32⟩
  | .hbm, ⟨1, _⟩ => ⟨S64x3x3x3, .f32⟩
  | .hbm, ⟨2, _⟩ => ⟨S64, .f32⟩
  | .hbm, ⟨3, _⟩ => ⟨S8x64x1x1, .f32⟩
  | .hbm, ⟨4, _⟩ => ⟨S8, .f32⟩
  | .hbm, ⟨5, _⟩ => ⟨S64x27, .f32⟩
  | .hbm, ⟨6, _⟩ => ⟨S8x64, .f32⟩
  | .hbm, ⟨7, _⟩ => ⟨S64x1, .f32⟩
  | .hbm, ⟨8, _⟩ => ⟨S8x1, .f32⟩
  | .hbm, ⟨9, _⟩ => ⟨S_, .i32⟩
  | .hbm, ⟨10, _⟩ => ⟨S_, .f32⟩
  | .hbm, ⟨11, _⟩ => ⟨S2x3x240x226, .f32⟩
  | .hbm, ⟨12, _⟩ => ⟨S2x3x224x224, .f32⟩
  | .local _ .vmem, ⟨0, _⟩ => ⟨S1x3x240x226, .f32⟩
  | .local _ .vmem, ⟨1, _⟩ => ⟨S1x3x240x226, .f32⟩
  | .local _ .vmem, ⟨2, _⟩ => ⟨S64x27, .f32⟩
  | .local _ .vmem, ⟨3, _⟩ => ⟨S64x1, .f32⟩
  | .local _ .vmem, ⟨4, _⟩ => ⟨S8x64, .f32⟩
  | .local _ .vmem, ⟨5, _⟩ => ⟨S8x1, .f32⟩
  | .local _ .vmem, ⟨6, _⟩ => ⟨S1x3x112x224, .f32⟩
  | .local _ .vmem, ⟨7, _⟩ => ⟨S1x3x112x224, .f32⟩
  | _, _ => ⟨S2x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![2, 2], ![false, false]⟩

def k0_off1 (i : grid0.Coords) : Fin 4 → Nat :=
  let c0 : Index := 0#32
  let c0_0 : Index := 0#32
  let arg1 : BitVec 32 := BitVec.ofNat 32 (i 1).val
  let c112_i32 : BitVec 32 := 112#32
  let v0 : BitVec 32 := Scalar.muli arg1 c112_i32
  let v1 : Index := Scalar.indexCast v0
  let c0_1 : Index := 0#32
  ![0, 0, v1.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x3x240x226 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S64x27 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x3x112x224 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S2x3x224x224 : Shape := ⟨4, ![2, 3, 224, 224]⟩
abbrev S64x3x3x3 : Shape := ⟨4, ![64, 3, 3, 3]⟩
abbrev S64 : Shape := ⟨1, ![64]⟩
abbrev S8x64x1x1 : Shape := ⟨4, ![8, 64, 1, 1]⟩
abbrev S8 : Shape := ⟨1, ![8]⟩
abbrev S_ : Shape := ⟨0, ![]⟩
abbrev S2x3x226x226 : Shape := ⟨4, ![2, 3, 226, 226]⟩
abbrev S2x64x224x224 : Shape := ⟨4, ![2, 64, 224, 224]⟩
abbrev S64x3x1x1 : Shape := ⟨4, ![64, 3, 1, 1]⟩
abbrev S64x3 : Shape := ⟨2, ![64, 3]⟩
abbrev S2x224x224x64 : Shape := ⟨4, ![2, 224, 224, 64]⟩
abbrev S1x64x1x1 : Shape := ⟨4, ![1, 64, 1, 1]⟩
abbrev S8x64 : Shape := ⟨2, ![8, 64]⟩
abbrev S2x224x224x8 : Shape := ⟨4, ![2, 224, 224, 8]⟩
abbrev S2x8x224x224 : Shape := ⟨4, ![2, 8, 224, 224]⟩
abbrev S1x8x1x1 : Shape := ⟨4, ![1, 8, 1, 1]⟩
abbrev S2x8x50176 : Shape := ⟨3, ![2, 8, 50176]⟩
abbrev S2x50176x8 : Shape := ⟨3, ![2, 50176, 8]⟩
abbrev S224 : Shape := ⟨1, ![224]⟩
abbrev S224x224 : Shape := ⟨2, ![224, 224]⟩
abbrev S224x224x1 : Shape := ⟨3, ![224, 224, 1]⟩
abbrev S224x224x2 : Shape := ⟨3, ![224, 224, 2]⟩
abbrev S50176x2 : Shape := ⟨2, ![50176, 2]⟩
abbrev S1x50176x2 : Shape := ⟨3, ![1, 50176, 2]⟩
abbrev S2x50176x2 : Shape := ⟨3, ![2, 50176, 2]⟩
abbrev S2x50176x3 : Shape := ⟨3, ![2, 50176, 3]⟩
abbrev S2x50176x1 : Shape := ⟨3, ![2, 50176, 1]⟩
abbrev S2x50176 : Shape := ⟨2, ![2, 50176]⟩
abbrev S1x50176x3 : Shape := ⟨3, ![1, 50176, 3]⟩
abbrev S50176x3 : Shape := ⟨2, ![50176, 3]⟩
abbrev S1x50176 : Shape := ⟨2, ![1, 50176]⟩
abbrev S50176 : Shape := ⟨1, ![50176]⟩
abbrev S50176x1 : Shape := ⟨2, ![50176, 1]⟩
abbrev S9 : Shape := ⟨1, ![9]⟩
abbrev S9x9 : Shape := ⟨2, ![9, 9]⟩
abbrev S81 : Shape := ⟨1, ![81]⟩
abbrev S1x81 : Shape := ⟨2, ![1, 81]⟩
abbrev S50176x81 : Shape := ⟨2, ![50176, 81]⟩
abbrev S50176x81x1 : Shape := ⟨3, ![50176, 81, 1]⟩
abbrev S50176x1x3 : Shape := ⟨3, ![50176, 1, 3]⟩
abbrev S50176x81x3 : Shape := ⟨3, ![50176, 81, 3]⟩
abbrev S4064256 : Shape := ⟨1, ![4064256]⟩
abbrev S4064256x3 : Shape := ⟨2, ![4064256, 3]⟩
abbrev S4064256x1 : Shape := ⟨2, ![4064256, 1]⟩
abbrev S224x224x3 : Shape := ⟨3, ![224, 224, 3]⟩
abbrev S3x224x224 : Shape := ⟨3, ![3, 224, 224]⟩
abbrev S1x3x224x224 : Shape := ⟨4, ![1, 3, 224, 224]⟩

abbrev nBuf : Space → Nat
  | .hbm => 544
  | .vmem => 0
  | .smem => 0
  | _ => 0

abbrev hbmTy0_0 (i : Nat) : BufTy := match i % 128 with
  | 0 => ⟨S2x3x224x224, .f32⟩
  | 1 => ⟨S64x3x3x3, .f32⟩
  | 2 => ⟨S64, .f32⟩
  | 3 => ⟨S8x64x1x1, .f32⟩
  | 4 => ⟨S8, .f32⟩
  | 5 => ⟨S_, .i32⟩
  | 6 => ⟨S_, .f32⟩
  | 7 => ⟨S2x3x226x226, .f32⟩
  | 8 => ⟨S_, .f32⟩
  | 9 => ⟨S2x64x224x224, .f32⟩
  | 10 => ⟨S64x3x1x1, .f32⟩
  | 11 => ⟨S64x3, .f32⟩
  | 12 => ⟨S2x3x224x224, .f32⟩
  | 13 => ⟨S2x224x224x64, .f32⟩
  | 14 => ⟨S2x64x224x224, .f32⟩
  | 15 => ⟨S2x64x224x224, .f32⟩
  | 16 => ⟨S64x3x1x1, .f32⟩
  | 17 => ⟨S64x3, .f32⟩
  | 18 => ⟨S2x3x224x224, .f32⟩
  | 19 => ⟨S2x224x224x64, .f32⟩
  | 20 => ⟨S2x64x224x224, .f32⟩
  | 21 => ⟨S2x64x224x224, .f32⟩
  | 22 => ⟨S64x3x1x1, .f32⟩
  | 23 => ⟨S64x3, .f32⟩
  | 24 => ⟨S2x3x224x224, .f32⟩
  | 25 => ⟨S2x224x224x64, .f32⟩
  | 26 => ⟨S2x64x224x224, .f32⟩
  | 27 => ⟨S2x64x224x224, .f32⟩
  | 28 => ⟨S64x3x1x1, .f32⟩
  | 29 => ⟨S64x3, .f32⟩
  | 30 => ⟨S2x3x224x224, .f32⟩
  | 31 => ⟨S2x224x224x64, .f32⟩
  | 32 => ⟨S2x64x224x224, .f32⟩
  | 33 => ⟨S2x64x224x224, .f32⟩
  | 34 => ⟨S64x3x1x1, .f32⟩
  | 35 => ⟨S64x3, .f32⟩
  | 36 => ⟨S2x3x224x224, .f32⟩
  | 37 => ⟨S2x224x224x64, .f32⟩
  | 38 => ⟨S2x64x224x224, .f32⟩
  | 39 => ⟨S2x64x224x224, .f32⟩
  | 40 => ⟨S64x3x1x1, .f32⟩
  | 41 => ⟨S64x3, .f32⟩
  | 42 => ⟨S2x3x224x224, .f32⟩
  | 43 => ⟨S2x224x224x64, .f32⟩
  | 44 => ⟨S2x64x224x224, .f32⟩
  | 45 => ⟨S2x64x224x224, .f32⟩
  | 46 => ⟨S64x3x1x1, .f32⟩
  | 47 => ⟨S64x3, .f32⟩
  | 48 => ⟨S2x3x224x224, .f32⟩
  | 49 => ⟨S2x224x224x64, .f32⟩
  | 50 => ⟨S2x64x224x224, .f32⟩
  | 51 => ⟨S2x64x224x224, .f32⟩
  | 52 => ⟨S64x3x1x1, .f32⟩
  | 53 => ⟨S64x3, .f32⟩
  | 54 => ⟨S2x3x224x224, .f32⟩
  | 55 => ⟨S2x224x224x64, .f32⟩
  | 56 => ⟨S2x64x224x224, .f32⟩
  | 57 => ⟨S2x64x224x224, .f32⟩
  | 58 => ⟨S64x3x1x1, .f32⟩
  | 59 => ⟨S64x3, .f32⟩
  | 60 => ⟨S2x3x224x224, .f32⟩
  | 61 => ⟨S2x224x224x64, .f32⟩
  | 62 => ⟨S2x64x224x224, .f32⟩
  | 63 => ⟨S2x64x224x224, .f32⟩
  | 64 => ⟨S1x64x1x1, .f32⟩
  | 65 => ⟨S2x64x224x224, .f32⟩
  | 66 => ⟨S2x64x224x224, .f32⟩
  | 67 => ⟨S_, .f32⟩
  | 68 => ⟨S2x64x224x224, .f32⟩
  | 69 => ⟨S2x64x224x224, .f32⟩
  | 70 => ⟨S8x64, .f32⟩
  | 71 => ⟨S2x224x224x8, .f32⟩
  | 72 => ⟨S2x8x224x224, .f32⟩
  | 73 => ⟨S1x8x1x1, .f32⟩
  | 74 => ⟨S2x8x224x224, .f32⟩
  | 75 => ⟨S2x8x224x224, .f32⟩
  | 76 => ⟨S2x8x50176, .f32⟩
  | 77 => ⟨S2x50176x8, .f32⟩
  | 78 => ⟨S224, .f32⟩
  | 79 => ⟨S224, .f32⟩
  | 80 => ⟨S224x224, .f32⟩
  | 81 => ⟨S224x224, .f32⟩
  | 82 => ⟨S_, .f32⟩
  | 83 => ⟨S224x224, .f32⟩
  | 84 => ⟨S224x224, .f32⟩
  | 85 => ⟨S_, .f32⟩
  | 86 => ⟨S224x224, .f32⟩
  | 87 => ⟨S224x224, .f32⟩
  | 88 => ⟨S_, .f32⟩
  | 89 => ⟨S224x224, .f32⟩
  | 90 => ⟨S224x224, .f32⟩
  | 91 => ⟨S_, .f32⟩
  | 92 => ⟨S224x224, .f32⟩
  | 93 => ⟨S224x224, .f32⟩
  | 94 => ⟨S_, .f32⟩
  | 95 => ⟨S224x224, .f32⟩
  | 96 => ⟨S224x224, .f32⟩
  | 97 => ⟨S_, .f32⟩
  | 98 => ⟨S224x224, .f32⟩
  | 99 => ⟨S224x224, .f32⟩
  | 100 => ⟨S224x224x1, .f32⟩
  | 101 => ⟨S224x224x1, .f32⟩
  | 102 => ⟨S224x224x2, .f32⟩
  | 103 => ⟨S50176x2, .f32⟩
  | 104 => ⟨S1x50176x2, .f32⟩
  | 105 => ⟨S2x50176x2, .f32⟩
  | 106 => ⟨S2x50176x3, .f32⟩
  | 107 => ⟨S2x50176x1, .f32⟩
  | 108 => ⟨S2x50176, .f32⟩
  | 109 => ⟨S2x50176, .f32⟩
  | 110 => ⟨S2x50176, .f32⟩
  | 111 => ⟨S_, .f32⟩
  | 112 => ⟨S2x50176, .f32⟩
  | 113 => ⟨S2x50176, .f32⟩
  | 114 => ⟨S_, .f32⟩
  | 115 => ⟨S2x50176, .f32⟩
  | 116 => ⟨S2x50176, .f32⟩
  | 117 => ⟨S_, .f32⟩
  | 118 => ⟨S2x50176, .f32⟩
  | 119 => ⟨S2x50176, .f32⟩
  | 120 => ⟨S_, .f32⟩
  | 121 => ⟨S2x50176, .f32⟩
  | 122 => ⟨S2x50176, .f32⟩
  | 123 => ⟨S2x50176x2, .f32⟩
  | 124 => ⟨S2x50176x2, .f32⟩
  | 125 => ⟨S2x50176x2, .f32⟩
  | 126 => ⟨S_, .f32⟩
  | 127 => ⟨S2x50176x2, .f32⟩
  | _ => ⟨S2x3x224x224, .f32⟩

abbrev hbmTy0_1 (i : Nat) : BufTy := match i % 128 with
  | 0 => ⟨S2x50176x2, .f32⟩
  | 1 => ⟨S_, .f32⟩
  | 2 => ⟨S2x50176x2, .f32⟩
  | 3 => ⟨S2x50176x2, .f32⟩
  | 4 => ⟨S_, .f32⟩
  | 5 => ⟨S2x50176x2, .f32⟩
  | 6 => ⟨S2x50176x2, .f32⟩
  | 7 => ⟨S_, .f32⟩
  | 8 => ⟨S2x50176x2, .f32⟩
  | 9 => ⟨S2x50176x2, .f32⟩
  | 10 => ⟨S2x50176x2, .f32⟩
  | 11 => ⟨S2x50176x2, .f32⟩
  | 12 => ⟨S2x50176x1, .f32⟩
  | 13 => ⟨S2x50176, .f32⟩
  | 14 => ⟨S2x50176x1, .f32⟩
  | 15 => ⟨S2x50176, .f32⟩
  | 16 => ⟨S_, .f32⟩
  | 17 => ⟨S2x50176, .f32⟩
  | 18 => ⟨S2x50176, .f32⟩
  | 19 => ⟨S_, .f32⟩
  | 20 => ⟨S2x50176, .f32⟩
  | 21 => ⟨S2x50176, .f32⟩
  | 22 => ⟨S2x50176, .f32⟩
  | 23 => ⟨S_, .f32⟩
  | 24 => ⟨S_, .f32⟩
  | 25 => ⟨S_, .f32⟩
  | 26 => ⟨S2x50176, .f32⟩
  | 27 => ⟨S2x50176, .f32⟩
  | 28 => ⟨S2x50176x1, .f32⟩
  | 29 => ⟨S2x50176, .f32⟩
  | 30 => ⟨S2x50176x1, .f32⟩
  | 31 => ⟨S2x50176, .f32⟩
  | 32 => ⟨S_, .f32⟩
  | 33 => ⟨S2x50176, .f32⟩
  | 34 => ⟨S2x50176, .f32⟩
  | 35 => ⟨S_, .f32⟩
  | 36 => ⟨S2x50176, .f32⟩
  | 37 => ⟨S2x50176, .f32⟩
  | 38 => ⟨S2x50176, .f32⟩
  | 39 => ⟨S_, .f32⟩
  | 40 => ⟨S_, .f32⟩
  | 41 => ⟨S_, .f32⟩
  | 42 => ⟨S2x50176, .f32⟩
  | 43 => ⟨S2x50176, .f32⟩
  | 44 => ⟨S2x50176x1, .f32⟩
  | 45 => ⟨S2x50176x1, .f32⟩
  | 46 => ⟨S2x50176x2, .f32⟩
  | 47 => ⟨S1x50176x3, .f32⟩
  | 48 => ⟨S50176x3, .f32⟩
  | 49 => ⟨S1x50176x2, .f32⟩
  | 50 => ⟨S50176x2, .f32⟩
  | 51 => ⟨S1x50176, .f32⟩
  | 52 => ⟨S50176, .f32⟩
  | 53 => ⟨S1x50176x2, .f32⟩
  | 54 => ⟨S50176x2, .f32⟩
  | 55 => ⟨S50176x1, .f32⟩
  | 56 => ⟨S50176, .f32⟩
  | 57 => ⟨S_, .f32⟩
  | 58 => ⟨S50176, .f32⟩
  | 59 => ⟨S50176, .f32⟩
  | 60 => ⟨S_, .f32⟩
  | 61 => ⟨S50176, .f32⟩
  | 62 => ⟨S50176, .f32⟩
  | 63 => ⟨S_, .f32⟩
  | 64 => ⟨S50176, .f32⟩
  | 65 => ⟨S50176, .f32⟩
  | 66 => ⟨S50176x1, .f32⟩
  | 67 => ⟨S50176, .f32⟩
  | 68 => ⟨S_, .f32⟩
  | 69 => ⟨S50176, .f32⟩
  | 70 => ⟨S50176, .f32⟩
  | 71 => ⟨S_, .f32⟩
  | 72 => ⟨S50176, .f32⟩
  | 73 => ⟨S50176, .f32⟩
  | 74 => ⟨S_, .f32⟩
  | 75 => ⟨S50176, .f32⟩
  | 76 => ⟨S50176, .f32⟩
  | 77 => ⟨S50176x1, .f32⟩
  | 78 => ⟨S50176, .f32⟩
  | 79 => ⟨S_, .f32⟩
  | 80 => ⟨S50176, .f32⟩
  | 81 => ⟨S50176, .f32⟩
  | 82 => ⟨S50176x1, .f32⟩
  | 83 => ⟨S50176, .f32⟩
  | 84 => ⟨S_, .f32⟩
  | 85 => ⟨S50176, .f32⟩
  | 86 => ⟨S50176, .f32⟩
  | 87 => ⟨S50176, .f32⟩
  | 88 => ⟨S50176, .f32⟩
  | 89 => ⟨S50176, .f32⟩
  | 90 => ⟨S50176, .f32⟩
  | 91 => ⟨S50176, .f32⟩
  | 92 => ⟨S50176, .f32⟩
  | 93 => ⟨S50176, .f32⟩
  | 94 => ⟨S50176, .f32⟩
  | 95 => ⟨S50176, .f32⟩
  | 96 => ⟨S50176, .f32⟩
  | 97 => ⟨S50176, .f32⟩
  | 98 => ⟨S50176, .f32⟩
  | 99 => ⟨S50176, .f32⟩
  | 100 => ⟨S50176, .f32⟩
  | 101 => ⟨S50176, .f32⟩
  | 102 => ⟨S50176, .f32⟩
  | 103 => ⟨S50176, .f32⟩
  | 104 => ⟨S50176, .f32⟩
  | 105 => ⟨S50176, .f32⟩
  | 106 => ⟨S50176, .f32⟩
  | 107 => ⟨S50176, .f32⟩
  | 108 => ⟨S50176, .f32⟩
  | 109 => ⟨S50176, .f32⟩
  | 110 => ⟨S50176, .f32⟩
  | 111 => ⟨S_, .f32⟩
  | 112 => ⟨S50176, .f32⟩
  | 113 => ⟨S50176, .f32⟩
  | 114 => ⟨S50176, .f32⟩
  | 115 => ⟨S50176, .f32⟩
  | 116 => ⟨S50176, .f32⟩
  | 117 => ⟨S50176, .f32⟩
  | 118 => ⟨S50176, .f32⟩
  | 119 => ⟨S50176, .i32⟩
  | 120 => ⟨S50176, .f32⟩
  | 121 => ⟨S50176, .i32⟩
  | 122 => ⟨S9, .i32⟩
  | 123 => ⟨S_, .i32⟩
  | 124 => ⟨S9, .i32⟩
  | 125 => ⟨S9, .i32⟩
  | 126 => ⟨S9x9, .i32⟩
  | 127 => ⟨S9x9, .i32⟩
  | _ => ⟨S2x3x224x224, .f32⟩

abbrev hbmTy0_2 (i : Nat) : BufTy := match i % 128 with
  | 0 => ⟨S81, .i32⟩
  | 1 => ⟨S81, .i32⟩
  | 2 => ⟨S50176x1, .i32⟩
  | 3 => ⟨S1x81, .i32⟩
  | 4 => ⟨S50176x81, .i32⟩
  | 5 => ⟨S50176x81, .i32⟩
  | 6 => ⟨S50176x81, .i32⟩
  | 7 => ⟨S50176x1, .i32⟩
  | 8 => ⟨S1x81, .i32⟩
  | 9 => ⟨S50176x81, .i32⟩
  | 10 => ⟨S50176x81, .i32⟩
  | 11 => ⟨S50176x81, .i32⟩
  | 12 => ⟨S50176x81, .f32⟩
  | 13 => ⟨S_, .f32⟩
  | 14 => ⟨S50176x81, .f32⟩
  | 15 => ⟨S50176x81, .f32⟩
  | 16 => ⟨S50176x1, .f32⟩
  | 17 => ⟨S50176x81, .f32⟩
  | 18 => ⟨S50176x81, .f32⟩
  | 19 => ⟨S50176x81, .f32⟩
  | 20 => ⟨S_, .f32⟩
  | 21 => ⟨S50176x81, .f32⟩
  | 22 => ⟨S50176x81, .f32⟩
  | 23 => ⟨S50176x1, .f32⟩
  | 24 => ⟨S50176x81, .f32⟩
  | 25 => ⟨S50176x81, .f32⟩
  | 26 => ⟨S50176x1, .f32⟩
  | 27 => ⟨S50176x81, .f32⟩
  | 28 => ⟨S50176x81, .f32⟩
  | 29 => ⟨S50176x81, .f32⟩
  | 30 => ⟨S50176x1, .f32⟩
  | 31 => ⟨S50176x81, .f32⟩
  | 32 => ⟨S50176x81, .f32⟩
  | 33 => ⟨S50176x81, .f32⟩
  | 34 => ⟨S50176x81, .f32⟩
  | 35 => ⟨S_, .f32⟩
  | 36 => ⟨S50176x81, .f32⟩
  | 37 => ⟨S50176x81, .f32⟩
  | 38 => ⟨S50176x1, .f32⟩
  | 39 => ⟨S50176x81, .f32⟩
  | 40 => ⟨S50176x81, .f32⟩
  | 41 => ⟨S50176x81, .f32⟩
  | 42 => ⟨S50176x81, .f32⟩
  | 43 => ⟨S_, .f32⟩
  | 44 => ⟨S50176x81, .f32⟩
  | 45 => ⟨S50176x81, .f32⟩
  | 46 => ⟨S50176x81, .f32⟩
  | 47 => ⟨S_, .i32⟩
  | 48 => ⟨S50176x81, .i32⟩
  | 49 => ⟨S50176x81, .i1⟩
  | 50 => ⟨S_, .i32⟩
  | 51 => ⟨S50176x81, .i32⟩
  | 52 => ⟨S50176x81, .i1⟩
  | 53 => ⟨S50176x81, .i1⟩
  | 54 => ⟨S_, .i32⟩
  | 55 => ⟨S50176x81, .i32⟩
  | 56 => ⟨S50176x81, .i1⟩
  | 57 => ⟨S50176x81, .i1⟩
  | 58 => ⟨S_, .i32⟩
  | 59 => ⟨S50176x81, .i32⟩
  | 60 => ⟨S50176x81, .i1⟩
  | 61 => ⟨S50176x81, .i1⟩
  | 62 => ⟨S_, .f32⟩
  | 63 => ⟨S_, .f32⟩
  | 64 => ⟨S50176x81, .f32⟩
  | 65 => ⟨S50176x81, .f32⟩
  | 66 => ⟨S_, .i32⟩
  | 67 => ⟨S50176x81, .i32⟩
  | 68 => ⟨S50176x81, .i32⟩
  | 69 => ⟨S50176x81, .i32⟩
  | 70 => ⟨S_, .i32⟩
  | 71 => ⟨S_, .i32⟩
  | 72 => ⟨S50176x81, .i32⟩
  | 73 => ⟨S50176x81, .i32⟩
  | 74 => ⟨S50176x81x1, .f32⟩
  | 75 => ⟨S50176x1x3, .f32⟩
  | 76 => ⟨S50176x81x3, .f32⟩
  | 77 => ⟨S50176x81x3, .f32⟩
  | 78 => ⟨S50176x81x3, .f32⟩
  | 79 => ⟨S_, .f32⟩
  | 80 => ⟨S50176x3, .f32⟩
  | 81 => ⟨S4064256, .i32⟩
  | 82 => ⟨S4064256x3, .f32⟩
  | 83 => ⟨S_, .i32⟩
  | 84 => ⟨S4064256, .i32⟩
  | 85 => ⟨S4064256, .i1⟩
  | 86 => ⟨S_, .i32⟩
  | 87 => ⟨S4064256, .i32⟩
  | 88 => ⟨S4064256, .i32⟩
  | 89 => ⟨S4064256, .i32⟩
  | 90 => ⟨S4064256x1, .i32⟩
  | 91 => ⟨S50176x3, .f32⟩
  | 92 => ⟨S224x224x3, .f32⟩
  | 93 => ⟨S3x224x224, .f32⟩
  | 94 => ⟨S_, .f32⟩
  | 95 => ⟨S_, .f32⟩
  | 96 => ⟨S_, .f32⟩
  | 97 => ⟨S3x224x224, .f32⟩
  | 98 => ⟨S3x224x224, .f32⟩
  | 99 => ⟨S_, .f32⟩
  | 100 => ⟨S3x224x224, .f32⟩
  | 101 => ⟨S3x224x224, .f32⟩
  | 102 => ⟨S1x50176x3, .f32⟩
  | 103 => ⟨S50176x3, .f32⟩
  | 104 => ⟨S1x50176x2, .f32⟩
  | 105 => ⟨S50176x2, .f32⟩
  | 106 => ⟨S1x50176, .f32⟩
  | 107 => ⟨S50176, .f32⟩
  | 108 => ⟨S1x50176x2, .f32⟩
  | 109 => ⟨S50176x2, .f32⟩
  | 110 => ⟨S50176x1, .f32⟩
  | 111 => ⟨S50176, .f32⟩
  | 112 => ⟨S_, .f32⟩
  | 113 => ⟨S50176, .f32⟩
  | 114 => ⟨S50176, .f32⟩
  | 115 => ⟨S_, .f32⟩
  | 116 => ⟨S50176, .f32⟩
  | 117 => ⟨S50176, .f32⟩
  | 118 => ⟨S_, .f32⟩
  | 119 => ⟨S50176, .f32⟩
  | 120 => ⟨S50176, .f32⟩
  | 121 => ⟨S50176x1, .f32⟩
  | 122 => ⟨S50176, .f32⟩
  | 123 => ⟨S_, .f32⟩
  | 124 => ⟨S50176, .f32⟩
  | 125 => ⟨S50176, .f32⟩
  | 126 => ⟨S_, .f32⟩
  | 127 => ⟨S50176, .f32⟩
  | _ => ⟨S2x3x224x224, .f32⟩

abbrev hbmTy0_3 (i : Nat) : BufTy := match i % 128 with
  | 0 => ⟨S50176, .f32⟩
  | 1 => ⟨S_, .f32⟩
  | 2 => ⟨S50176, .f32⟩
  | 3 => ⟨S50176, .f32⟩
  | 4 => ⟨S50176x1, .f32⟩
  | 5 => ⟨S50176, .f32⟩
  | 6 => ⟨S_, .f32⟩
  | 7 => ⟨S50176, .f32⟩
  | 8 => ⟨S50176, .f32⟩
  | 9 => ⟨S50176x1, .f32⟩
  | 10 => ⟨S50176, .f32⟩
  | 11 => ⟨S_, .f32⟩
  | 12 => ⟨S50176, .f32⟩
  | 13 => ⟨S50176, .f32⟩
  | 14 => ⟨S50176, .f32⟩
  | 15 => ⟨S50176, .f32⟩
  | 16 => ⟨S50176, .f32⟩
  | 17 => ⟨S50176, .f32⟩
  | 18 => ⟨S50176, .f32⟩
  | 19 => ⟨S50176, .f32⟩
  | 20 => ⟨S50176, .f32⟩
  | 21 => ⟨S50176, .f32⟩
  | 22 => ⟨S50176, .f32⟩
  | 23 => ⟨S50176, .f32⟩
  | 24 => ⟨S50176, .f32⟩
  | 25 => ⟨S50176, .f32⟩
  | 26 => ⟨S50176, .f32⟩
  | 27 => ⟨S50176, .f32⟩
  | 28 => ⟨S50176, .f32⟩
  | 29 => ⟨S50176, .f32⟩
  | 30 => ⟨S50176, .f32⟩
  | 31 => ⟨S50176, .f32⟩
  | 32 => ⟨S50176, .f32⟩
  | 33 => ⟨S50176, .f32⟩
  | 34 => ⟨S50176, .f32⟩
  | 35 => ⟨S50176, .f32⟩
  | 36 => ⟨S50176, .f32⟩
  | 37 => ⟨S50176, .f32⟩
  | 38 => ⟨S_, .f32⟩
  | 39 => ⟨S50176, .f32⟩
  | 40 => ⟨S50176, .f32⟩
  | 41 => ⟨S50176, .f32⟩
  | 42 => ⟨S50176, .f32⟩
  | 43 => ⟨S50176, .f32⟩
  | 44 => ⟨S50176, .f32⟩
  | 45 => ⟨S50176, .f32⟩
  | 46 => ⟨S50176, .i32⟩
  | 47 => ⟨S50176, .f32⟩
  | 48 => ⟨S50176, .i32⟩
  | 49 => ⟨S9, .i32⟩
  | 50 => ⟨S_, .i32⟩
  | 51 => ⟨S9, .i32⟩
  | 52 => ⟨S9, .i32⟩
  | 53 => ⟨S9x9, .i32⟩
  | 54 => ⟨S9x9, .i32⟩
  | 55 => ⟨S81, .i32⟩
  | 56 => ⟨S81, .i32⟩
  | 57 => ⟨S50176x1, .i32⟩
  | 58 => ⟨S1x81, .i32⟩
  | 59 => ⟨S50176x81, .i32⟩
  | 60 => ⟨S50176x81, .i32⟩
  | 61 => ⟨S50176x81, .i32⟩
  | 62 => ⟨S50176x1, .i32⟩
  | 63 => ⟨S1x81, .i32⟩
  | 64 => ⟨S50176x81, .i32⟩
  | 65 => ⟨S50176x81, .i32⟩
  | 66 => ⟨S50176x81, .i32⟩
  | 67 => ⟨S50176x81, .f32⟩
  | 68 => ⟨S_, .f32⟩
  | 69 => ⟨S50176x81, .f32⟩
  | 70 => ⟨S50176x81, .f32⟩
  | 71 => ⟨S50176x1, .f32⟩
  | 72 => ⟨S50176x81, .f32⟩
  | 73 => ⟨S50176x81, .f32⟩
  | 74 => ⟨S50176x81, .f32⟩
  | 75 => ⟨S_, .f32⟩
  | 76 => ⟨S50176x81, .f32⟩
  | 77 => ⟨S50176x81, .f32⟩
  | 78 => ⟨S50176x1, .f32⟩
  | 79 => ⟨S50176x81, .f32⟩
  | 80 => ⟨S50176x81, .f32⟩
  | 81 => ⟨S50176x1, .f32⟩
  | 82 => ⟨S50176x81, .f32⟩
  | 83 => ⟨S50176x81, .f32⟩
  | 84 => ⟨S50176x81, .f32⟩
  | 85 => ⟨S50176x1, .f32⟩
  | 86 => ⟨S50176x81, .f32⟩
  | 87 => ⟨S50176x81, .f32⟩
  | 88 => ⟨S50176x81, .f32⟩
  | 89 => ⟨S50176x81, .f32⟩
  | 90 => ⟨S_, .f32⟩
  | 91 => ⟨S50176x81, .f32⟩
  | 92 => ⟨S50176x81, .f32⟩
  | 93 => ⟨S50176x1, .f32⟩
  | 94 => ⟨S50176x81, .f32⟩
  | 95 => ⟨S50176x81, .f32⟩
  | 96 => ⟨S50176x81, .f32⟩
  | 97 => ⟨S50176x81, .f32⟩
  | 98 => ⟨S_, .f32⟩
  | 99 => ⟨S50176x81, .f32⟩
  | 100 => ⟨S50176x81, .f32⟩
  | 101 => ⟨S50176x81, .f32⟩
  | 102 => ⟨S_, .i32⟩
  | 103 => ⟨S50176x81, .i32⟩
  | 104 => ⟨S50176x81, .i1⟩
  | 105 => ⟨S_, .i32⟩
  | 106 => ⟨S50176x81, .i32⟩
  | 107 => ⟨S50176x81, .i1⟩
  | 108 => ⟨S50176x81, .i1⟩
  | 109 => ⟨S_, .i32⟩
  | 110 => ⟨S50176x81, .i32⟩
  | 111 => ⟨S50176x81, .i1⟩
  | 112 => ⟨S50176x81, .i1⟩
  | 113 => ⟨S_, .i32⟩
  | 114 => ⟨S50176x81, .i32⟩
  | 115 => ⟨S50176x81, .i1⟩
  | 116 => ⟨S50176x81, .i1⟩
  | 117 => ⟨S_, .f32⟩
  | 118 => ⟨S_, .f32⟩
  | 119 => ⟨S50176x81, .f32⟩
  | 120 => ⟨S50176x81, .f32⟩
  | 121 => ⟨S_, .i32⟩
  | 122 => ⟨S50176x81, .i32⟩
  | 123 => ⟨S50176x81, .i32⟩
  | 124 => ⟨S50176x81, .i32⟩
  | 125 => ⟨S_, .i32⟩
  | 126 => ⟨S_, .i32⟩
  | 127 => ⟨S50176x81, .i32⟩
  | _ => ⟨S2x3x224x224, .f32⟩

abbrev hbmTy0_4 (i : Nat) : BufTy := match i % 128 with
  | 0 => ⟨S50176x81, .i32⟩
  | 1 => ⟨S50176x81x1, .f32⟩
  | 2 => ⟨S50176x1x3, .f32⟩
  | 3 => ⟨S50176x81x3, .f32⟩
  | 4 => ⟨S50176x81x3, .f32⟩
  | 5 => ⟨S50176x81x3, .f32⟩
  | 6 => ⟨S_, .f32⟩
  | 7 => ⟨S50176x3, .f32⟩
  | 8 => ⟨S4064256, .i32⟩
  | 9 => ⟨S4064256x3, .f32⟩
  | 10 => ⟨S_, .i32⟩
  | 11 => ⟨S4064256, .i32⟩
  | 12 => ⟨S4064256, .i1⟩
  | 13 => ⟨S_, .i32⟩
  | 14 => ⟨S4064256, .i32⟩
  | 15 => ⟨S4064256, .i32⟩
  | 16 => ⟨S4064256, .i32⟩
  | 17 => ⟨S4064256x1, .i32⟩
  | 18 => ⟨S50176x3, .f32⟩
  | 19 => ⟨S224x224x3, .f32⟩
  | 20 => ⟨S3x224x224, .f32⟩
  | 21 => ⟨S_, .f32⟩
  | 22 => ⟨S_, .f32⟩
  | 23 => ⟨S_, .f32⟩
  | 24 => ⟨S3x224x224, .f32⟩
  | 25 => ⟨S3x224x224, .f32⟩
  | 26 => ⟨S_, .f32⟩
  | 27 => ⟨S3x224x224, .f32⟩
  | 28 => ⟨S3x224x224, .f32⟩
  | 29 => ⟨S1x3x224x224, .f32⟩
  | 30 => ⟨S1x3x224x224, .f32⟩
  | 31 => ⟨S2x3x224x224, .f32⟩
  | _ => ⟨S2x3x224x224, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2x3x224x224, .f32⟩

abbrev bufTy : (tb : Table) → Fin (tcTables nBuf tb) → BufTy
  | .hbm, ⟨i, _⟩ => hbmTy i
  | _, _ => ⟨S2x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_call1_cst : Ref sig .tc := ⟨.hbm, 67, rfl⟩
abbrev main_call1_v0 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_cst_0 : Ref sig .tc := ⟨.hbm, 82, rfl⟩
abbrev main_v72 : Ref sig .tc := ⟨.hbm, 83, rfl⟩
abbrev main_v73 : Ref sig .tc := ⟨.hbm, 84, rfl⟩
abbrev main_cst_1 : Ref sig .tc := ⟨.hbm, 85, rfl⟩
abbrev main_v74 : Ref sig .tc := ⟨.hbm, 86, rfl⟩
abbrev main_v75 : Ref sig .tc := ⟨.hbm, 87, rfl⟩
abbrev main_cst_2 : Ref sig .tc := ⟨.hbm, 88, rfl⟩
abbrev main_v76 : Ref sig .tc := ⟨.hbm, 89, rfl⟩
abbrev main_v77 : Ref sig .tc := ⟨.hbm, 90, rfl⟩
abbrev main_cst_3 : Ref sig .tc := ⟨.hbm, 91, rfl⟩
abbrev main_v78 : Ref sig .tc := ⟨.hbm, 92, rfl⟩
abbrev main_v79 : Ref sig .tc := ⟨.hbm, 93, rfl⟩
abbrev main_cst_4 : Ref sig .tc := ⟨.hbm, 94, rfl⟩
abbrev main_v80 : Ref sig .tc := ⟨.hbm, 95, rfl⟩
abbrev main_v81 : Ref sig .tc := ⟨.hbm, 96, rfl⟩
abbrev main_cst_5 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_cst_6 : Ref sig .tc := ⟨.hbm, 111, rfl⟩
abbrev main_v95 : Ref sig .tc := ⟨.hbm, 112, rfl⟩
abbrev main_v96 : Ref sig .tc := ⟨.hbm, 113, rfl⟩
abbrev main_cst_7 : Ref sig .tc := ⟨.hbm, 114, rfl⟩
abbrev main_v97 : Ref sig .tc := ⟨.hbm, 115, rfl⟩
abbrev main_v98 : Ref sig .tc := ⟨.hbm, 116, rfl⟩
abbrev main_cst_8 : Ref sig .tc := ⟨.hbm, 117, rfl⟩
abbrev main_v99 : Ref sig .tc := ⟨.hbm, 118, rfl⟩
abbrev main_v100 : Ref sig .tc := ⟨.hbm, 119, rfl⟩
abbrev main_cst_9 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_cst_10 : Ref sig .tc := ⟨.hbm, 126, rfl⟩
abbrev main_v106 : Ref sig .tc := ⟨.hbm, 127, rfl⟩
abbrev main_v107 : Ref sig .tc := ⟨.hbm, 128, rfl⟩
abbrev main_cst_11 : Ref sig .tc := ⟨.hbm, 129, rfl⟩
abbrev main_v108 : Ref sig .tc := ⟨.hbm, 130, rfl⟩
abbrev main_v109 : Ref sig .tc := ⟨.hbm, 131, rfl⟩
abbrev main_cst_12 : Ref sig .tc := ⟨.hbm, 132, rfl⟩
abbrev main_v110 : Ref sig .tc := ⟨.hbm, 133, rfl⟩
abbrev main_v111 : Ref sig .tc := ⟨.hbm, 134, rfl⟩
abbrev main_cst_13 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_cst_14 : Ref sig .tc := ⟨.hbm, 144, rfl⟩
abbrev main_v120 : Ref sig .tc := ⟨.hbm, 145, rfl⟩
abbrev main_v121 : Ref sig .tc := ⟨.hbm, 146, rfl⟩
abbrev main_cst_15 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_cst_16 : Ref sig .tc := ⟨.hbm, 151, rfl⟩
abbrev main_cst_17 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_cst_18 : Ref sig .tc := ⟨.hbm, 160, rfl⟩
abbrev main_v132 : Ref sig .tc := ⟨.hbm, 161, rfl⟩
abbrev main_v133 : Ref sig .tc := ⟨.hbm, 162, rfl⟩
abbrev main_cst_19 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_cst_20 : Ref sig .tc := ⟨.hbm, 167, rfl⟩
abbrev main_cst_21 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_cst_22 : Ref sig .tc := ⟨.hbm, 185, rfl⟩
abbrev main_v153 : Ref sig .tc := ⟨.hbm, 186, rfl⟩
abbrev main_v154 : Ref sig .tc := ⟨.hbm, 187, rfl⟩
abbrev main_cst_23 : Ref sig .tc := ⟨.hbm, 188, rfl⟩
abbrev main_v155 : Ref sig .tc := ⟨.hbm, 189, rfl⟩
abbrev main_v156 : Ref sig .tc := ⟨.hbm, 190, rfl⟩
abbrev main_cst_24 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_cst_25 : Ref sig .tc := ⟨.hbm, 196, rfl⟩
abbrev main_v161 : Ref sig .tc := ⟨.hbm, 197, rfl⟩
abbrev main_v162 : Ref sig .tc := ⟨.hbm, 198, rfl⟩
abbrev main_cst_26 : Ref sig .tc := ⟨.hbm, 199, rfl⟩
abbrev main_v163 : Ref sig .tc := ⟨.hbm, 200, rfl⟩
abbrev main_v164 : Ref sig .tc := ⟨.hbm, 201, rfl⟩
abbrev main_cst_27 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_v168 : Ref sig .tc := ⟨.hbm, 206, rfl⟩
abbrev main_cst_28 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_cst_29 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_v184 : Ref sig .tc := ⟨.hbm, 224, rfl⟩
abbrev main_v185 : Ref sig .tc := ⟨.hbm, 225, rfl⟩
abbrev main_v186 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩
abbrev main_v190 : Ref sig .tc := ⟨.hbm, 230, rfl⟩
abbrev main_v191 : Ref sig .tc := ⟨.hbm, 231, rfl⟩
abbrev main_v192 : Ref sig .tc := ⟨.hbm, 232, rfl⟩
abbrev main_v193 : Ref sig .tc := ⟨.hbm, 233, rfl⟩
abbrev main_v194 : Ref sig .tc := ⟨.hbm, 234, rfl⟩
abbrev main_v195 : Ref sig .tc := ⟨.hbm, 235, rfl⟩
abbrev main_v196 : Ref sig .tc := ⟨.hbm, 236, rfl⟩
abbrev main_v197 : Ref sig .tc := ⟨.hbm, 237, rfl⟩
abbrev main_v198 : Ref sig .tc := ⟨.hbm, 238, rfl⟩
abbrev main_cst_30 : Ref sig .tc := ⟨.hbm, 239, rfl⟩
abbrev main_v199 : Ref sig .tc := ⟨.hbm, 240, rfl⟩
abbrev main_v200 : Ref sig .tc := ⟨.hbm, 241, rfl⟩
abbrev main_v201 : Ref sig .tc := ⟨.hbm, 242, rfl⟩
abbrev main_v202 : Ref sig .tc := ⟨.hbm, 243, rfl⟩
abbrev main_v203 : Ref sig .tc := ⟨.hbm, 244, rfl⟩
abbrev main_v204 : Ref sig .tc := ⟨.hbm, 245, rfl⟩
abbrev main_v205 : Ref sig .tc := ⟨.hbm, 246, rfl⟩
abbrev main_v206 : Ref sig .tc := ⟨.hbm, 247, rfl⟩
abbrev main_v207 : Ref sig .tc := ⟨.hbm, 248, rfl⟩
abbrev main_v208 : Ref sig .tc := ⟨.hbm, 249, rfl⟩
abbrev main_v209 : Ref sig .tc := ⟨.hbm, 250, rfl⟩
abbrev main_c_31 : Ref sig .tc := ⟨.hbm, 251, rfl⟩
abbrev main_v210 : Ref sig .tc := ⟨.hbm, 252, rfl⟩
abbrev main_v211 : Ref sig .tc := ⟨.hbm, 253, rfl⟩
abbrev main_v212 : Ref sig .tc := ⟨.hbm, 254, rfl⟩
abbrev main_v213 : Ref sig .tc := ⟨.hbm, 255, rfl⟩
abbrev main_v214 : Ref sig .tc := ⟨.hbm, 256, rfl⟩
abbrev main_v215 : Ref sig .tc := ⟨.hbm, 257, rfl⟩
abbrev main_v216 : Ref sig .tc := ⟨.hbm, 258, rfl⟩
abbrev main_v217 : Ref sig .tc := ⟨.hbm, 259, rfl⟩
abbrev main_v218 : Ref sig .tc := ⟨.hbm, 260, rfl⟩
abbrev main_v219 : Ref sig .tc := ⟨.hbm, 261, rfl⟩
abbrev main_v220 : Ref sig .tc := ⟨.hbm, 262, rfl⟩
abbrev main_v221 : Ref sig .tc := ⟨.hbm, 263, rfl⟩
abbrev main_v222 : Ref sig .tc := ⟨.hbm, 264, rfl⟩
abbrev main_v223 : Ref sig .tc := ⟨.hbm, 265, rfl⟩
abbrev main_v224 : Ref sig .tc := ⟨.hbm, 266, rfl⟩
abbrev main_v225 : Ref sig .tc := ⟨.hbm, 267, rfl⟩
abbrev main_v226 : Ref sig .tc := ⟨.hbm, 268, rfl⟩
abbrev main_cst_32 : Ref sig .tc := ⟨.hbm, 269, rfl⟩
abbrev main_v227 : Ref sig .tc := ⟨.hbm, 270, rfl⟩
abbrev main_v228 : Ref sig .tc := ⟨.hbm, 271, rfl⟩
abbrev main_v229 : Ref sig .tc := ⟨.hbm, 272, rfl⟩
abbrev main_v230 : Ref sig .tc := ⟨.hbm, 273, rfl⟩
abbrev main_v231 : Ref sig .tc := ⟨.hbm, 274, rfl⟩
abbrev main_v232 : Ref sig .tc := ⟨.hbm, 275, rfl⟩
abbrev main_cst_33 : Ref sig .tc := ⟨.hbm, 276, rfl⟩
abbrev main_v233 : Ref sig .tc := ⟨.hbm, 277, rfl⟩
abbrev main_v234 : Ref sig .tc := ⟨.hbm, 278, rfl⟩
abbrev main_v235 : Ref sig .tc := ⟨.hbm, 279, rfl⟩
abbrev main_v236 : Ref sig .tc := ⟨.hbm, 280, rfl⟩
abbrev main_v237 : Ref sig .tc := ⟨.hbm, 281, rfl⟩
abbrev main_v238 : Ref sig .tc := ⟨.hbm, 282, rfl⟩
abbrev main_v239 : Ref sig .tc := ⟨.hbm, 283, rfl⟩
abbrev main_v240 : Ref sig .tc := ⟨.hbm, 284, rfl⟩
abbrev main_v241 : Ref sig .tc := ⟨.hbm, 285, rfl⟩
abbrev main_v242 : Ref sig .tc := ⟨.hbm, 286, rfl⟩
abbrev main_v243 : Ref sig .tc := ⟨.hbm, 287, rfl⟩
abbrev main_v244 : Ref sig .tc := ⟨.hbm, 288, rfl⟩
abbrev main_v245 : Ref sig .tc := ⟨.hbm, 289, rfl⟩
abbrev main_v246 : Ref sig .tc := ⟨.hbm, 290, rfl⟩
abbrev main_cst_34 : Ref sig .tc := ⟨.hbm, 291, rfl⟩
abbrev main_v247 : Ref sig .tc := ⟨.hbm, 292, rfl⟩
abbrev main_v248 : Ref sig .tc := ⟨.hbm, 293, rfl⟩
abbrev main_v249 : Ref sig .tc := ⟨.hbm, 294, rfl⟩
abbrev main_v250 : Ref sig .tc := ⟨.hbm, 295, rfl⟩
abbrev main_v251 : Ref sig .tc := ⟨.hbm, 296, rfl⟩
abbrev main_v252 : Ref sig .tc := ⟨.hbm, 297, rfl⟩
abbrev main_v253 : Ref sig .tc := ⟨.hbm, 298, rfl⟩
abbrev main_cst_35 : Ref sig .tc := ⟨.hbm, 299, rfl⟩
abbrev main_v254 : Ref sig .tc := ⟨.hbm, 300, rfl⟩
abbrev main_v255 : Ref sig .tc := ⟨.hbm, 301, rfl⟩
abbrev main_v256 : Ref sig .tc := ⟨.hbm, 302, rfl⟩
abbrev main_c_36 : Ref sig .tc := ⟨.hbm, 303, rfl⟩
abbrev main_v257 : Ref sig .tc := ⟨.hbm, 304, rfl⟩
abbrev main_v258 : Ref sig .tc := ⟨.hbm, 305, rfl⟩
abbrev main_c_37 : Ref sig .tc := ⟨.hbm, 306, rfl⟩
abbrev main_v259 : Ref sig .tc := ⟨.hbm, 307, rfl⟩
abbrev main_v260 : Ref sig .tc := ⟨.hbm, 308, rfl⟩
abbrev main_v261 : Ref sig .tc := ⟨.hbm, 309, rfl⟩
abbrev main_c_38 : Ref sig .tc := ⟨.hbm, 310, rfl⟩
abbrev main_v262 : Ref sig .tc := ⟨.hbm, 311, rfl⟩
abbrev main_v263 : Ref sig .tc := ⟨.hbm, 312, rfl⟩
abbrev main_v264 : Ref sig .tc := ⟨.hbm, 313, rfl⟩
abbrev main_c_39 : Ref sig .tc := ⟨.hbm, 314, rfl⟩
abbrev main_v265 : Ref sig .tc := ⟨.hbm, 315, rfl⟩
abbrev main_v266 : Ref sig .tc := ⟨.hbm, 316, rfl⟩
abbrev main_v267 : Ref sig .tc := ⟨.hbm, 317, rfl⟩
abbrev main_cst_40 : Ref sig .tc := ⟨.hbm, 318, rfl⟩
abbrev main_call2_v0 : Ref sig .tc := ⟨.hbm, 319, rfl⟩
abbrev main_call2_v1 : Ref sig .tc := ⟨.hbm, 320, rfl⟩
abbrev main_v268 : Ref sig .tc := ⟨.hbm, 321, rfl⟩
abbrev main_c_41 : Ref sig .tc := ⟨.hbm, 322, rfl⟩
abbrev main_v269 : Ref sig .tc := ⟨.hbm, 323, rfl⟩
abbrev main_v270 : Ref sig .tc := ⟨.hbm, 324, rfl⟩
abbrev main_v271 : Ref sig .tc := ⟨.hbm, 325, rfl⟩
abbrev main_c_42 : Ref sig .tc := ⟨.hbm, 326, rfl⟩
abbrev main_call3_v0 : Ref sig .tc := ⟨.hbm, 327, rfl⟩
abbrev main_call3_v1 : Ref sig .tc := ⟨.hbm, 328, rfl⟩
abbrev main_v272 : Ref sig .tc := ⟨.hbm, 329, rfl⟩
abbrev main_v273 : Ref sig .tc := ⟨.hbm, 330, rfl⟩
abbrev main_v274 : Ref sig .tc := ⟨.hbm, 331, rfl⟩
abbrev main_v275 : Ref sig .tc := ⟨.hbm, 332, rfl⟩
abbrev main_v276 : Ref sig .tc := ⟨.hbm, 333, rfl⟩
abbrev main_v277 : Ref sig .tc := ⟨.hbm, 334, rfl⟩
abbrev main_cst_43 : Ref sig .tc := ⟨.hbm, 335, rfl⟩
abbrev main_v278 : Ref sig .tc := ⟨.hbm, 336, rfl⟩
abbrev main_v279 : Ref sig .tc := ⟨.hbm, 337, rfl⟩
abbrev main_v280 : Ref sig .tc := ⟨.hbm, 338, rfl⟩
abbrev main_c_44 : Ref sig .tc := ⟨.hbm, 339, rfl⟩
abbrev main_v281 : Ref sig .tc := ⟨.hbm, 340, rfl⟩
abbrev main_v282 : Ref sig .tc := ⟨.hbm, 341, rfl⟩
abbrev main_c_45 : Ref sig .tc := ⟨.hbm, 342, rfl⟩
abbrev main_v283 : Ref sig .tc := ⟨.hbm, 343, rfl⟩
abbrev main_v284 : Ref sig .tc := ⟨.hbm, 344, rfl⟩
abbrev main_v285 : Ref sig .tc := ⟨.hbm, 345, rfl⟩
abbrev main_v286 : Ref sig .tc := ⟨.hbm, 346, rfl⟩
abbrev main_v287 : Ref sig .tc := ⟨.hbm, 347, rfl⟩
abbrev main_v288 : Ref sig .tc := ⟨.hbm, 348, rfl⟩
abbrev main_v289 : Ref sig .tc := ⟨.hbm, 349, rfl⟩
abbrev main_cst_46 : Ref sig .tc := ⟨.hbm, 350, rfl⟩
abbrev main_cst_47 : Ref sig .tc := ⟨.hbm, 351, rfl⟩
abbrev main_call4_v0 : Ref sig .tc := ⟨.hbm, 352, rfl⟩
abbrev main_call4_v1 : Ref sig .tc := ⟨.hbm, 353, rfl⟩
abbrev main_call4_v2 : Ref sig .tc := ⟨.hbm, 354, rfl⟩
abbrev main_call4_v3 : Ref sig .tc := ⟨.hbm, 355, rfl⟩
abbrev main_call4_v4 : Ref sig .tc := ⟨.hbm, 356, rfl⟩
abbrev main_v290 : Ref sig .tc := ⟨.hbm, 357, rfl⟩
abbrev main_v291 : Ref sig .tc := ⟨.hbm, 358, rfl⟩
abbrev main_v292 : Ref sig .tc := ⟨.hbm, 359, rfl⟩
abbrev main_v293 : Ref sig .tc := ⟨.hbm, 360, rfl⟩
abbrev main_v294 : Ref sig .tc := ⟨.hbm, 361, rfl⟩
abbrev main_v295 : Ref sig .tc := ⟨.hbm, 362, rfl⟩
abbrev main_v296 : Ref sig .tc := ⟨.hbm, 363, rfl⟩
abbrev main_v297 : Ref sig .tc := ⟨.hbm, 364, rfl⟩
abbrev main_v298 : Ref sig .tc := ⟨.hbm, 365, rfl⟩
abbrev main_v299 : Ref sig .tc := ⟨.hbm, 366, rfl⟩
abbrev main_v300 : Ref sig .tc := ⟨.hbm, 367, rfl⟩
abbrev main_cst_48 : Ref sig .tc := ⟨.hbm, 368, rfl⟩
abbrev main_v301 : Ref sig .tc := ⟨.hbm, 369, rfl⟩
abbrev main_v302 : Ref sig .tc := ⟨.hbm, 370, rfl⟩
abbrev main_cst_49 : Ref sig .tc := ⟨.hbm, 371, rfl⟩
abbrev main_v303 : Ref sig .tc := ⟨.hbm, 372, rfl⟩
abbrev main_v304 : Ref sig .tc := ⟨.hbm, 373, rfl⟩
abbrev main_cst_50 : Ref sig .tc := ⟨.hbm, 374, rfl⟩
abbrev main_v305 : Ref sig .tc := ⟨.hbm, 375, rfl⟩
abbrev main_v306 : Ref sig .tc := ⟨.hbm, 376, rfl⟩
abbrev main_v307 : Ref sig .tc := ⟨.hbm, 377, rfl⟩
abbrev main_v308 : Ref sig .tc := ⟨.hbm, 378, rfl⟩
abbrev main_cst_51 : Ref sig .tc := ⟨.hbm, 379, rfl⟩
abbrev main_v309 : Ref sig .tc := ⟨.hbm, 380, rfl⟩
abbrev main_v310 : Ref sig .tc := ⟨.hbm, 381, rfl⟩
abbrev main_cst_52 : Ref sig .tc := ⟨.hbm, 382, rfl⟩
abbrev main_v311 : Ref sig .tc := ⟨.hbm, 383, rfl⟩
abbrev main_v312 : Ref sig .tc := ⟨.hbm, 384, rfl⟩
abbrev main_cst_53 : Ref sig .tc := ⟨.hbm, 385, rfl⟩
abbrev main_v313 : Ref sig .tc := ⟨.hbm, 386, rfl⟩
abbrev main_v314 : Ref sig .tc := ⟨.hbm, 387, rfl⟩
abbrev main_v315 : Ref sig .tc := ⟨.hbm, 388, rfl⟩
abbrev main_v316 : Ref sig .tc := ⟨.hbm, 389, rfl⟩
abbrev main_cst_54 : Ref sig .tc := ⟨.hbm, 390, rfl⟩
abbrev main_v317 : Ref sig .tc := ⟨.hbm, 391, rfl⟩
abbrev main_v318 : Ref sig .tc := ⟨.hbm, 392, rfl⟩
abbrev main_v319 : Ref sig .tc := ⟨.hbm, 393, rfl⟩
abbrev main_v320 : Ref sig .tc := ⟨.hbm, 394, rfl⟩
abbrev main_cst_55 : Ref sig .tc := ⟨.hbm, 395, rfl⟩
abbrev main_v321 : Ref sig .tc := ⟨.hbm, 396, rfl⟩
abbrev main_v322 : Ref sig .tc := ⟨.hbm, 397, rfl⟩
abbrev main_v323 : Ref sig .tc := ⟨.hbm, 398, rfl⟩
abbrev main_v324 : Ref sig .tc := ⟨.hbm, 399, rfl⟩
abbrev main_v325 : Ref sig .tc := ⟨.hbm, 400, rfl⟩
abbrev main_v326 : Ref sig .tc := ⟨.hbm, 401, rfl⟩
abbrev main_v327 : Ref sig .tc := ⟨.hbm, 402, rfl⟩
abbrev main_v328 : Ref sig .tc := ⟨.hbm, 403, rfl⟩
abbrev main_v329 : Ref sig .tc := ⟨.hbm, 404, rfl⟩
abbrev main_v330 : Ref sig .tc := ⟨.hbm, 405, rfl⟩
abbrev main_v331 : Ref sig .tc := ⟨.hbm, 406, rfl⟩
abbrev main_v332 : Ref sig .tc := ⟨.hbm, 407, rfl⟩
abbrev main_v333 : Ref sig .tc := ⟨.hbm, 408, rfl⟩
abbrev main_v334 : Ref sig .tc := ⟨.hbm, 409, rfl⟩
abbrev main_v335 : Ref sig .tc := ⟨.hbm, 410, rfl⟩
abbrev main_v336 : Ref sig .tc := ⟨.hbm, 411, rfl⟩
abbrev main_v337 : Ref sig .tc := ⟨.hbm, 412, rfl⟩
abbrev main_v338 : Ref sig .tc := ⟨.hbm, 413, rfl⟩
abbrev main_v339 : Ref sig .tc := ⟨.hbm, 414, rfl⟩
abbrev main_v340 : Ref sig .tc := ⟨.hbm, 415, rfl⟩
abbrev main_v341 : Ref sig .tc := ⟨.hbm, 416, rfl⟩
abbrev main_v342 : Ref sig .tc := ⟨.hbm, 417, rfl⟩
abbrev main_v343 : Ref sig .tc := ⟨.hbm, 418, rfl⟩
abbrev main_v344 : Ref sig .tc := ⟨.hbm, 419, rfl⟩
abbrev main_v345 : Ref sig .tc := ⟨.hbm, 420, rfl⟩
abbrev main_v346 : Ref sig .tc := ⟨.hbm, 421, rfl⟩
abbrev main_cst_56 : Ref sig .tc := ⟨.hbm, 422, rfl⟩
abbrev main_v347 : Ref sig .tc := ⟨.hbm, 423, rfl⟩
abbrev main_v348 : Ref sig .tc := ⟨.hbm, 424, rfl⟩
abbrev main_v349 : Ref sig .tc := ⟨.hbm, 425, rfl⟩
abbrev main_v350 : Ref sig .tc := ⟨.hbm, 426, rfl⟩
abbrev main_v351 : Ref sig .tc := ⟨.hbm, 427, rfl⟩
abbrev main_v352 : Ref sig .tc := ⟨.hbm, 428, rfl⟩
abbrev main_v353 : Ref sig .tc := ⟨.hbm, 429, rfl⟩
abbrev main_v354 : Ref sig .tc := ⟨.hbm, 430, rfl⟩
abbrev main_v355 : Ref sig .tc := ⟨.hbm, 431, rfl⟩
abbrev main_v356 : Ref sig .tc := ⟨.hbm, 432, rfl⟩
abbrev main_v357 : Ref sig .tc := ⟨.hbm, 433, rfl⟩
abbrev main_c_57 : Ref sig .tc := ⟨.hbm, 434, rfl⟩
abbrev main_v358 : Ref sig .tc := ⟨.hbm, 435, rfl⟩
abbrev main_v359 : Ref sig .tc := ⟨.hbm, 436, rfl⟩
abbrev main_v360 : Ref sig .tc := ⟨.hbm, 437, rfl⟩
abbrev main_v361 : Ref sig .tc := ⟨.hbm, 438, rfl⟩
abbrev main_v362 : Ref sig .tc := ⟨.hbm, 439, rfl⟩
abbrev main_v363 : Ref sig .tc := ⟨.hbm, 440, rfl⟩
abbrev main_v364 : Ref sig .tc := ⟨.hbm, 441, rfl⟩
abbrev main_v365 : Ref sig .tc := ⟨.hbm, 442, rfl⟩
abbrev main_v366 : Ref sig .tc := ⟨.hbm, 443, rfl⟩
abbrev main_v367 : Ref sig .tc := ⟨.hbm, 444, rfl⟩
abbrev main_v368 : Ref sig .tc := ⟨.hbm, 445, rfl⟩
abbrev main_v369 : Ref sig .tc := ⟨.hbm, 446, rfl⟩
abbrev main_v370 : Ref sig .tc := ⟨.hbm, 447, rfl⟩
abbrev main_v371 : Ref sig .tc := ⟨.hbm, 448, rfl⟩
abbrev main_v372 : Ref sig .tc := ⟨.hbm, 449, rfl⟩
abbrev main_v373 : Ref sig .tc := ⟨.hbm, 450, rfl⟩
abbrev main_v374 : Ref sig .tc := ⟨.hbm, 451, rfl⟩
abbrev main_cst_58 : Ref sig .tc := ⟨.hbm, 452, rfl⟩
abbrev main_v375 : Ref sig .tc := ⟨.hbm, 453, rfl⟩
abbrev main_v376 : Ref sig .tc := ⟨.hbm, 454, rfl⟩
abbrev main_v377 : Ref sig .tc := ⟨.hbm, 455, rfl⟩
abbrev main_v378 : Ref sig .tc := ⟨.hbm, 456, rfl⟩
abbrev main_v379 : Ref sig .tc := ⟨.hbm, 457, rfl⟩
abbrev main_v380 : Ref sig .tc := ⟨.hbm, 458, rfl⟩
abbrev main_cst_59 : Ref sig .tc := ⟨.hbm, 459, rfl⟩
abbrev main_v381 : Ref sig .tc := ⟨.hbm, 460, rfl⟩
abbrev main_v382 : Ref sig .tc := ⟨.hbm, 461, rfl⟩
abbrev main_v383 : Ref sig .tc := ⟨.hbm, 462, rfl⟩
abbrev main_v384 : Ref sig .tc := ⟨.hbm, 463, rfl⟩
abbrev main_v385 : Ref sig .tc := ⟨.hbm, 464, rfl⟩
abbrev main_v386 : Ref sig .tc := ⟨.hbm, 465, rfl⟩
abbrev main_v387 : Ref sig .tc := ⟨.hbm, 466, rfl⟩
abbrev main_v388 : Ref sig .tc := ⟨.hbm, 467, rfl⟩
abbrev main_v389 : Ref sig .tc := ⟨.hbm, 468, rfl⟩
abbrev main_v390 : Ref sig .tc := ⟨.hbm, 469, rfl⟩
abbrev main_v391 : Ref sig .tc := ⟨.hbm, 470, rfl⟩
abbrev main_v392 : Ref sig .tc := ⟨.hbm, 471, rfl⟩
abbrev main_v393 : Ref sig .tc := ⟨.hbm, 472, rfl⟩
abbrev main_v394 : Ref sig .tc := ⟨.hbm, 473, rfl⟩
abbrev main_cst_60 : Ref sig .tc := ⟨.hbm, 474, rfl⟩
abbrev main_v395 : Ref sig .tc := ⟨.hbm, 475, rfl⟩
abbrev main_v396 : Ref sig .tc := ⟨.hbm, 476, rfl⟩
abbrev main_v397 : Ref sig .tc := ⟨.hbm, 477, rfl⟩
abbrev main_v398 : Ref sig .tc := ⟨.hbm, 478, rfl⟩
abbrev main_v399 : Ref sig .tc := ⟨.hbm, 479, rfl⟩
abbrev main_v400 : Ref sig .tc := ⟨.hbm, 480, rfl⟩
abbrev main_v401 : Ref sig .tc := ⟨.hbm, 481, rfl⟩
abbrev main_cst_61 : Ref sig .tc := ⟨.hbm, 482, rfl⟩
abbrev main_v402 : Ref sig .tc := ⟨.hbm, 483, rfl⟩
abbrev main_v403 : Ref sig .tc := ⟨.hbm, 484, rfl⟩
abbrev main_v404 : Ref sig .tc := ⟨.hbm, 485, rfl⟩
abbrev main_c_62 : Ref sig .tc := ⟨.hbm, 486, rfl⟩
abbrev main_v405 : Ref sig .tc := ⟨.hbm, 487, rfl⟩
abbrev main_v406 : Ref sig .tc := ⟨.hbm, 488, rfl⟩
abbrev main_c_63 : Ref sig .tc := ⟨.hbm, 489, rfl⟩
abbrev main_v407 : Ref sig .tc := ⟨.hbm, 490, rfl⟩
abbrev main_v408 : Ref sig .tc := ⟨.hbm, 491, rfl⟩
abbrev main_v409 : Ref sig .tc := ⟨.hbm, 492, rfl⟩
abbrev main_c_64 : Ref sig .tc := ⟨.hbm, 493, rfl⟩
abbrev main_v410 : Ref sig .tc := ⟨.hbm, 494, rfl⟩
abbrev main_v411 : Ref sig .tc := ⟨.hbm, 495, rfl⟩
abbrev main_v412 : Ref sig .tc := ⟨.hbm, 496, rfl⟩
abbrev main_c_65 : Ref sig .tc := ⟨.hbm, 497, rfl⟩
abbrev main_v413 : Ref sig .tc := ⟨.hbm, 498, rfl⟩
abbrev main_v414 : Ref sig .tc := ⟨.hbm, 499, rfl⟩
abbrev main_v415 : Ref sig .tc := ⟨.hbm, 500, rfl⟩
abbrev main_cst_66 : Ref sig .tc := ⟨.hbm, 501, rfl⟩
abbrev main_call5_v0 : Ref sig .tc := ⟨.hbm, 502, rfl⟩
abbrev main_call5_v1 : Ref sig .tc := ⟨.hbm, 503, rfl⟩
abbrev main_v416 : Ref sig .tc := ⟨.hbm, 504, rfl⟩
abbrev main_c_67 : Ref sig .tc := ⟨.hbm, 505, rfl⟩
abbrev main_v417 : Ref sig .tc := ⟨.hbm, 506, rfl⟩
abbrev main_v418 : Ref sig .tc := ⟨.hbm, 507, rfl⟩
abbrev main_v419 : Ref sig .tc := ⟨.hbm, 508, rfl⟩
abbrev main_c_68 : Ref sig .tc := ⟨.hbm, 509, rfl⟩
abbrev main_call6_v0 : Ref sig .tc := ⟨.hbm, 510, rfl⟩
abbrev main_call6_v1 : Ref sig .tc := ⟨.hbm, 511, rfl⟩
abbrev main_v420 : Ref sig .tc := ⟨.hbm, 512, rfl⟩
abbrev main_v421 : Ref sig .tc := ⟨.hbm, 513, rfl⟩
abbrev main_v422 : Ref sig .tc := ⟨.hbm, 514, rfl⟩
abbrev main_v423 : Ref sig .tc := ⟨.hbm, 515, rfl⟩
abbrev main_v424 : Ref sig .tc := ⟨.hbm, 516, rfl⟩
abbrev main_v425 : Ref sig .tc := ⟨.hbm, 517, rfl⟩
abbrev main_cst_69 : Ref sig .tc := ⟨.hbm, 518, rfl⟩
abbrev main_v426 : Ref sig .tc := ⟨.hbm, 519, rfl⟩
abbrev main_v427 : Ref sig .tc := ⟨.hbm, 520, rfl⟩
abbrev main_v428 : Ref sig .tc := ⟨.hbm, 521, rfl⟩
abbrev main_c_70 : Ref sig .tc := ⟨.hbm, 522, rfl⟩
abbrev main_v429 : Ref sig .tc := ⟨.hbm, 523, rfl⟩
abbrev main_v430 : Ref sig .tc := ⟨.hbm, 524, rfl⟩
abbrev main_c_71 : Ref sig .tc := ⟨.hbm, 525, rfl⟩
abbrev main_v431 : Ref sig .tc := ⟨.hbm, 526, rfl⟩
abbrev main_v432 : Ref sig .tc := ⟨.hbm, 527, rfl⟩
abbrev main_v433 : Ref sig .tc := ⟨.hbm, 528, rfl⟩
abbrev main_v434 : Ref sig .tc := ⟨.hbm, 529, rfl⟩
abbrev main_v435 : Ref sig .tc := ⟨.hbm, 530, rfl⟩
abbrev main_v436 : Ref sig .tc := ⟨.hbm, 531, rfl⟩
abbrev main_v437 : Ref sig .tc := ⟨.hbm, 532, rfl⟩
abbrev main_cst_72 : Ref sig .tc := ⟨.hbm, 533, rfl⟩
abbrev main_cst_73 : Ref sig .tc := ⟨.hbm, 534, rfl⟩
abbrev main_call7_v0 : Ref sig .tc := ⟨.hbm, 535, rfl⟩
abbrev main_call7_v1 : Ref sig .tc := ⟨.hbm, 536, rfl⟩
abbrev main_call7_v2 : Ref sig .tc := ⟨.hbm, 537, rfl⟩
abbrev main_call7_v3 : Ref sig .tc := ⟨.hbm, 538, rfl⟩
abbrev main_call7_v4 : Ref sig .tc := ⟨.hbm, 539, rfl⟩
abbrev main_v438 : Ref sig .tc := ⟨.hbm, 540, rfl⟩
abbrev main_v439 : Ref sig .tc := ⟨.hbm, 541, rfl⟩
abbrev main_v440 : Ref sig .tc := ⟨.hbm, 542, rfl⟩
abbrev main_v441 : Ref sig .tc := ⟨.hbm, 543, rfl⟩

abbrev nD : Nat := 1
abbrev τ : Topo := Topo.v7x

variable {F : FTy → Type} [FloatOps F]
-- ==== Proof.Block.lean ====
/-
  What one grid point computes, as array operations on the values it loads.

  The kernel's body spreads, over an 11 × 11 window of source pixels, the weight of each source's Gaussian at the
  output pixel, times the source's colour. Its operations are unrolled; here they are stated once, by the column
  `dw` and the row `dh` of the window: `weight` is one entry of the window, `column` the sum over the rows of one
  column, `total` the sum over the columns in the kernel's own order, `channel` the clipped result.
-/
module

public import proofs.«01_k».proof.Proof.Gen.KernelIdeal.Skeleton

@[expose] public section

set_option maxRecDepth 16384

noncomputable section

namespace Cert.KernelIdeal.Block

open Cert.KernelIdeal Cert.KernelIdeal.Gen Idealize.ShloMosaic Idealize.SL.Sem

variable {F : FTy → Type} [FloatOps F]

/-- The offset `0.5 - (d - 4)` of window place `d`, as a 32-bit float's word. -/
def centre : Fin 11 → BitVec 32 :=
  ![0x40900000#32, 0x40600000#32, 0x40200000#32, 0x3FC00000#32, 0x3F000000#32, 0xBF000000#32, 0xBFC00000#32,
    0xC0200000#32, 0xC0600000#32, 0xC0900000#32, 0xC0B00000#32]

/-- The comparison that the floor of an offset must pass at window place `d`: the outer two places on each side have
    one, the seven between have none. -/
def gate : Fin 11 → Option (CmpFPredicate × BitVec 32) :=
  ![some (.oge, 0xBF000000#32), some (.oge, 0xBFC00000#32), none, none, none, none, none, none, none,
    some (.ole, 0xBF000000#32), some (.ole, 0xBFC00000#32)]

/-- Columns `dw … dw + 223` of a padded array fit in it. -/
theorem col_fits (dw : Fin 11) : S122x234.Slices ![0, dw.val] S122x224 := by revert dw; decide

/-- Rows `dh … dh + 111` of an extended block fit in it. -/
theorem row_fits (dh : Fin 11) : S122x224.Slices ![dh.val, 0] S112x224 := by revert dh; decide

/-- Columns `dw … dw + 223`. -/
def col (dw : Fin 11) (x : FVec F S122x234 .f32) : FVec F S122x224 .f32 :=
  extractStridedSlice S122x224 ![0, dw.val] x (col_fits dw)

/-- Rows `dh … dh + 111`. -/
def row {α : Type} (dh : Fin 11) (x : S122x224.Idx → α) : S112x224.Idx → α :=
  extractStridedSlice S112x224 ![dh.val, 0] x (row_fits dh)

/-- A comparison of every element with one constant. -/
def passes {s : Shape} (g : CmpFPredicate × BitVec 32) (x : FVec F s .f32) : IVec s 1 :=
  cmpf g.1 x (broadcast s (Scalar.ofBits .f32 g.2))

/-- The constant zero block. -/
def zero : FVec F S112x224 .f32 := broadcast S112x224 (Scalar.ofBits .f32 0x00000000#32)

/-- The five padded arrays a weight is made of: the offsets `qx`, `qy` and the coefficients of the quadratic form. -/
structure Maps (F : FTy → Type) where
  qx : FVec F S122x234 .f32
  qy : FVec F S122x234 .f32
  nA : FVec F S122x234 .f32
  nB : FVec F S122x234 .f32
  nC : FVec F S122x234 .f32

/-- The Gaussian's value at window place `(dw, dh)`, before any mask. -/
def alpha (M : Maps F) (dw dh : Fin 11) : FVec F S112x224 .f32 :=
  let fx := subf (broadcast S112x224 (Scalar.ofBits .f32 (centre dw))) (row dh (col dw M.qx))
  let fy := subf (broadcast S112x224 (Scalar.ofBits .f32 (centre dh))) (row dh (col dw M.qy))
  let inner := addf (mulf (row dh (col dw M.nA)) fx) (mulf (row dh (col dw M.nB)) fy)
  exp (minimumf (addf (mulf fx inner) (mulf (row dh (col dw M.nC)) (mulf fy fy))) zero)

/-- The weight at window place `(dw, dh)`: the Gaussian's value, masked where the place has a comparison. -/
def weight (M : Maps F) (dw dh : Fin 11) : FVec F S112x224 .f32 :=
  match gate dw, gate dh with
  | some gx, some gy => select (andi (row dh (passes gx (floor (col dw M.qx)))) (passes gy (row dh (floor (col dw M.qy)))))
      (alpha M dw dh) zero
  | some gx, none => select (row dh (passes gx (floor (col dw M.qx)))) (alpha M dw dh) zero
  | none, some gy => select (passes gy (row dh (floor (col dw M.qy)))) (alpha M dw dh) zero
  | none, none => alpha M dw dh

/-- One more window place: the weight times the source's colour, added to the sum so far. -/
def place (M : Maps F) (r : FVec F S122x234 .f32) (dw dh : Fin 11) (acc : FVec F S112x224 .f32) : FVec F S112x224 .f32 :=
  addf acc (mulf (weight M dw dh) (row dh (col dw r)))

/-- The sum over the rows of one column of the window, first to last from zero. -/
def column (M : Maps F) (r : FVec F S122x234 .f32) (dw : Fin 11) : FVec F S112x224 .f32 :=
  place M r dw 10 (place M r dw 9 (place M r dw 8 (place M r dw 7 (place M r dw 6 (place M r dw 5 (place M r dw 4
    (place M r dw 3 (place M r dw 2 (place M r dw 1 (place M r dw 0 zero))))))))))

/-- Two neighbouring columns. -/
def pair (M : Maps F) (r : FVec F S122x234 .f32) (a b : Fin 11) : FVec F S112x224 .f32 :=
  addf (column M r a) (column M r b)

/-- The sum over the columns, in the kernel's order: neighbours in pairs, round after round. -/
def total (M : Maps F) (r : FVec F S122x234 .f32) : FVec F S112x224 .f32 :=
  addf (addf (addf (pair M r 0 1) (pair M r 2 3)) (addf (pair M r 4 5) (pair M r 6 7))) (addf (pair M r 8 9) (column M r 10))

/-- The sum clipped to `[0, 1]`. -/
def channel (M : Maps F) (r : FVec F S122x234 .f32) : FVec F S112x224 .f32 :=
  minimumf (broadcast S112x224 (Scalar.ofBits .f32 0x3F800000#32)) (maximumf zero (total M r))

section Loaded

variable (v2 : Vec F S1x3x128x226 .f32) (v86 : Vec F S64x27 .f32) (v89 : Vec F S64x1 .f32) (v96 : Vec F S8x64 .f32)
  (v99 : Vec F S8x1 .f32) (v152 : BitVec 32)

/-- The second matrix product, of the head's weights and the rectified features. -/
def head : FVec F S8x122x224 .f32 :=
  k0_pay28 (k0_pay2 v2) (k0_pay3 v2) (k0_pay4 v2) (k0_pay5 v2) (k0_pay6 v2) (k0_pay7 v2) (k0_pay8 v2) (k0_pay9 v2) (k0_pay10 v2)
    (k0_pay11 v2) (k0_pay12 v2) (k0_pay13 v2) (k0_pay14 v2) (k0_pay15 v2) (k0_pay16 v2) (k0_pay17 v2) (k0_pay18 v2) (k0_pay19 v2)
    (k0_pay20 v2) (k0_pay21 v2) (k0_pay22 v2) (k0_pay23 v2) (k0_pay24 v2) (k0_pay25 v2) (k0_pay26 v2) (k0_pay27 v2) v86 v89 v96

/-- The offset and form maps of a predicted block, from the product `h` and the bias `b`. -/
def maps (h b : FVec F S8x122x224 .f32) : Maps F where
  qx := k0_pay45 (k0_pay30 h b)
  qy := k0_pay48 (k0_pay46 (F := F)) (k0_pay47 (k0_pay30 h b))
  nA := k0_pay49 (k0_pay38 h b) (k0_pay39 h b)
  nB := k0_pay50 (k0_pay37 h b) (k0_pay39 h b)
  nC := k0_pay51 (k0_pay36 h b) (k0_pay39 h b)

/-- The colour of channel `ch`, zero outside the image. -/
def colour (ch : Fin 3) (p : FVec F S8x122x224 .f32) : FVec F S122x234 .f32 :=
  match ch with
  | 0 => k0_pay42 p (iota .tc S122x224 32 [0] iota_S122x224_d0_w32) v152
  | 1 => k0_pay43 p (iota .tc S122x224 32 [0] iota_S122x224_d0_w32) v152
  | 2 => k0_pay44 p (iota .tc S122x224 32 [0] iota_S122x224_d0_w32) v152

/-- Channel `ch` of the block a grid point leaves, from what it loads. -/
def result (ch : Fin 3) : FVec F S1x1x112x224 .f32 :=
  k0_pay1 (channel (maps (head v2 v86 v89 v96) (k0_pay29 v99)) (colour v152 ch (k0_pay30 (head v2 v86 v89 v96) (k0_pay29 v99))))

end Loaded

end Cert.KernelIdeal.Block

end
-- ==== Proof.Spread.lean ====
/-
  The mathematics of one splat, in the reals.

  A source pixel carries eight predicted numbers `p`: three colours, an angle, two scales, two offsets. Whatever
  extended reals they are, the logistic and the hyperbolic tangent make reals of the last five, so the Gaussian's
  quadratic form has real coefficients and a positive determinant. `spread p dx dy` is the weight with which the
  source is added to the pixel `dx` columns to its right and `dy` rows below it: the Gaussian's value inside the
  9 × 9 window around the shifted centre, and zero outside it. `image` sums it over all sources and clips.
-/
module

public import Idealize.ShloMosaic.PureOps.Ideal

@[expose] public section

noncomputable section

namespace Cert.Splat

open Idealize.ShloMosaic

/-- The smaller of two reals is the same in the extended reals. -/
theorem coe_min (a b : ℝ) : ((min a b : ℝ) : EReal) = min (a : EReal) (b : EReal) :=
  EReal.coe_strictMono.monotone.map_min

/-! ## The two bounded functions -/

/-- The logistic function as a real number. -/
def sig (x : EReal) : ℝ := (Ideal.logistic x).toReal

/-- The hyperbolic tangent as a real number. -/
def th (x : EReal) : ℝ := (Ideal.tanh x).toReal

/-- The logistic function of an extended real is a real. -/
theorem logistic_eq (x : EReal) : Ideal.logistic x = (sig x : EReal) := by
  cases x with
  | bot => simp [sig]
  | coe r => rw [sig, Ideal.logistic_coe, EReal.toReal_coe]
  | top => simp [sig]

/-- The logistic function written out with a negation, an exponential, a sum and a quotient. -/
theorem logistic_open (x : EReal) : Ideal.div 1 (1 + Ideal.exp (-x)) = (sig x : EReal) := logistic_eq x

/-- The hyperbolic tangent of an extended real is a real. -/
theorem tanh_eq (x : EReal) : Ideal.tanh x = (th x : EReal) := by
  cases x with
  | bot => show (-1 : EReal) = ((-1 : EReal).toReal : EReal); rw [← EReal.coe_one, ← EReal.coe_neg, EReal.toReal_coe]
  | coe r => rfl
  | top => show (1 : EReal) = ((1 : EReal).toReal : EReal); rw [← EReal.coe_one, EReal.toReal_coe]

/-- The hyperbolic tangent lies between `-1` and `1`. -/
theorem th_mem (x : EReal) : -1 ≤ th x ∧ th x ≤ 1 := by
  cases x with
  | bot =>
    have h : th ⊥ = -1 := by
      show (-1 : EReal).toReal = -1
      rw [← EReal.coe_one, ← EReal.coe_neg, EReal.toReal_coe]
    rw [h]; norm_num
  | coe r => exact ⟨(Real.neg_one_lt_tanh r).le, (Real.tanh_lt_one r).le⟩
  | top =>
    have h : th ⊤ = 1 := by
      show (1 : EReal).toReal = 1
      rw [← EReal.coe_one, EReal.toReal_coe]
    rw [h]; norm_num

/-! ## The quadratic form -/

variable (p : Fin 8 → EReal)

/-- The angle: the logistic of the fourth number times the float nearest `2π`. -/
def angle : ℝ := sig (p 3) * (13176795 / 2097152)

/-- The scale along the first axis, in pixels. -/
def scaleX : ℝ := (sig (p 4) * (1 / 2) + 8796093 / 8796093022208) * 112

/-- The scale along the second axis, in pixels. -/
def scaleY : ℝ := (sig (p 5) * (1 / 2) + 8796093 / 8796093022208) * 112

/-- The offset of the centre from the source pixel, along the columns. -/
def offX : ℝ := th (p 6) - 1 / 2

/-- The offset of the centre from the source pixel, along the rows. -/
def offY : ℝ := th (p 7) - 1 / 2

/-- The first diagonal entry of the covariance. -/
def covA : ℝ :=
  Real.cos (angle p) * Real.cos (angle p) * (scaleX p * scaleX p) + Real.sin (angle p) * Real.sin (angle p) * (scaleY p * scaleY p)

/-- The entry off the diagonal of the covariance. -/
def covB : ℝ := Real.cos (angle p) * Real.sin (angle p) * (scaleX p * scaleX p - scaleY p * scaleY p)

/-- The second diagonal entry of the covariance. -/
def covC : ℝ :=
  Real.sin (angle p) * Real.sin (angle p) * (scaleX p * scaleX p) + Real.cos (angle p) * Real.cos (angle p) * (scaleY p * scaleY p)

/-- The determinant with the small constant added that keeps it from zero. -/
def det : ℝ := covA p * covC p - covB p * covB p + 9223372 / 9223372036854775808

/-- The determinant is positive: without the constant it is the square of the product of the scales. -/
theorem det_pos : 0 < det p := by
  have h : covA p * covC p - covB p * covB p = (scaleX p * scaleY p) ^ 2 := by
    have hs := Real.sin_sq_add_cos_sq (angle p)
    unfold covA covB covC
    generalize Real.cos (angle p) = c at *
    generalize Real.sin (angle p) = s at *
    generalize scaleX p = x
    generalize scaleY p = y
    have e : (c * c * (x * x) + s * s * (y * y)) * (s * s * (x * x) + c * c * (y * y))
        - c * s * (x * x - y * y) * (c * s * (x * x - y * y)) = (x * y) ^ 2 * (s ^ 2 + c ^ 2) ^ 2 := by ring
    rw [e, hs]; ring
  rw [det, h]
  positivity

/-- The exponent at the displacement `(fx, fy)` from the centre. -/
def form (fx fy : ℝ) : ℝ :=
  -(1 / 2) * (covC p / det p * fx * fx + covA p / det p * fy * fy) - -covB p / det p * fx * fy

/-- The Gaussian's value at the displacement `(fx, fy)` from the centre. -/
def bell (fx fy : ℝ) : ℝ := Real.exp (min (form p fx fy) 0)

/-! ## The weight of a source at a target -/

/-- The displacement `d`, in whole pixels, lies within four pixels of the floor of the offset `q`. -/
def Near (q : ℝ) (d : ℤ) : Prop := -4 ≤ d - ⌊q⌋ ∧ d - ⌊q⌋ ≤ 4

instance (q : ℝ) (d : ℤ) : Decidable (Near q d) := by unfold Near; infer_instance

/-- The weight with which a source is added to the pixel `dx` columns to its right and `dy` rows below it. -/
def spread (dx dy : ℤ) : EReal :=
  if Near (offX p) dx ∧ Near (offY p) dy then (bell p (dx + 1 / 2 - offX p) (dy + 1 / 2 - offY p) : EReal) else 0

/-- The floor of an offset is `-2`, `-1` or `0`. -/
theorem floor_off (x : EReal) : -2 ≤ ⌊th x - 1 / 2⌋ ∧ ⌊th x - 1 / 2⌋ ≤ 0 := by
  obtain ⟨h1, h2⟩ := th_mem x
  constructor
  · rw [Int.le_floor]; push_cast; linarith
  · have : ⌊th x - 1 / 2⌋ < 1 := by rw [Int.floor_lt]; push_cast; linarith
    omega

/-- A displacement near an offset is at most six to the left and four to the right. -/
theorem near_range {x : EReal} {d : ℤ} (h : Near (th x - 1 / 2) d) : -6 ≤ d ∧ d ≤ 4 := by
  have := floor_off x
  unfold Near at h
  omega

/-- The clipped sum, over all sources of an image, of weight times colour, at channel `ch`, row `h` and column `w`. -/
def image (pred : Fin 8 → Fin 224 → Fin 224 → EReal) (ch : Fin 8) (h w : Fin 224) : EReal :=
  min 1 (max 0 (∑ i : Fin 224, ∑ j : Fin 224, spread (fun k => pred k i j) ((w : ℤ) - j) ((h : ℤ) - i) * pred ch i j))

end Cert.Splat

end
-- ==== Proof.Weight.lean ====
/-
  What one entry of the kernel's window is worth.

  At an output pixel, the window's place `(dw, dh)` holds the source `dw - 4` columns to the right and `dh - 4` rows
  below. Where the offset maps and the coefficient maps hold at that source what the predicted numbers `p` make of
  them, the kernel's weight is `spread p (4 - dw) (4 - dh)`: the comparisons on the outer places are exactly the window
  of the Gaussian, and the seven inner places need none because an offset's floor is `-2`, `-1` or `0`.
-/
module

public import proofs.«01_k».proof.Proof.Block
public import proofs.«01_k».proof.Proof.Spread
public import Idealize.ShloMosaic.Lib.Pointwise

@[expose] public section

set_option maxRecDepth 16384

noncomputable section

namespace Cert.KernelIdeal.Block

open Cert.KernelIdeal Cert.KernelIdeal.Gen Idealize.ShloMosaic Cert.Splat

/-! ## Constants -/

/-- The word of one half. -/
theorem half_eq : Ideal.ofBits .f32 0x3F000000#32 = ((1 / 2 : ℝ) : EReal) := by
  simp [Ideal.ofBits, Ideal.ieee, -EReal.coe_mul]; norm_num

/-- The word of minus one half. -/
theorem neg_half_eq : Ideal.ofBits .f32 0xBF000000#32 = ((-(1 / 2) : ℝ) : EReal) := by
  simp [Ideal.ofBits, Ideal.ieee, -EReal.coe_mul]; norm_num

/-- The word of minus three halves. -/
theorem neg_three_halves_eq : Ideal.ofBits .f32 0xBFC00000#32 = ((-(3 / 2) : ℝ) : EReal) := by
  simp [Ideal.ofBits, Ideal.ieee, -EReal.coe_mul]; norm_num

/-- The centre constants are `4.5 - d`. -/
theorem centre_eq (d : Fin 11) : Ideal.ofBits .f32 (centre d) = ((9 / 2 - d.val : ℝ) : EReal) := by
  fin_cases d <;> simp [centre, Ideal.ofBits, Ideal.ieee, -EReal.coe_mul, -EReal.coe_sub, -EReal.coe_neg] <;> norm_num

/-! ## Where a place reads -/

/-- The row of an extended block that window row `dh` reads for output row `r`. -/
def srcRow (dh : Fin 11) (r : Fin 112) : Fin 122 := ⟨dh.val + r.val, by omega⟩

/-- The padded column that window column `dw` reads for output column `w`. -/
def srcCol (dw : Fin 11) (w : Fin 224) : Fin 234 := ⟨dw.val + w.val, by omega⟩

/-- A map read at a window place. -/
theorem row_col_apply {F : FTy → Type} (x : FVec F S122x234 .f32) (dw dh : Fin 11) (r : Fin 112) (w : Fin 224) :
    row dh (col dw x) (ix2 r w) = x (ix2 (srcRow dh r) (srcCol dw w)) := by
  pointwise [row, col, srcRow, srcCol]

/-- A column comparison read at a window place. -/
theorem passes_col_apply (g : CmpFPredicate × BitVec 32) (x : FVec Ideal S122x234 .f32) (dw dh : Fin 11) (r : Fin 112)
    (w : Fin 224) : row dh (passes g (floor (col dw x))) (ix2 r w)
      = FloatOps.cmpf (F := Ideal) (φ := .f32) g.1 (Ideal.liftRound Int.floor (x (ix2 (srcRow dh r) (srcCol dw w)))) (Ideal.ofBits .f32 g.2) := by
  rw [← row_col_apply x]; rfl

/-- A row comparison read at a window place. -/
theorem passes_row_apply (g : CmpFPredicate × BitVec 32) (x : FVec Ideal S122x234 .f32) (dw dh : Fin 11) (r : Fin 112)
    (w : Fin 224) : passes g (row dh (floor (col dw x))) (ix2 r w)
      = FloatOps.cmpf (F := Ideal) (φ := .f32) g.1 (Ideal.liftRound Int.floor (x (ix2 (srcRow dh r) (srcCol dw w)))) (Ideal.ofBits .f32 g.2) := by
  rw [← row_col_apply x]; rfl

/-! ## The comparisons -/

/-- A whole number is at least a half below one that is at least it. -/
theorem int_ge (n k : ℤ) : ((((k : ℝ) - 1 / 2 : ℝ) : EReal) ≤ ((n : ℝ) : EReal)) ↔ k ≤ n := by
  rw [EReal.coe_le_coe_iff]
  constructor
  · intro h
    by_contra hc
    have : (n : ℝ) ≤ k - 1 := by exact_mod_cast (by omega : n ≤ k - 1)
    linarith
  · intro h
    have : (k : ℝ) ≤ n := by exact_mod_cast h
    linarith

/-- A whole number is at most a half above one that is at most it. -/
theorem int_le (n k : ℤ) : (((n : ℝ) : EReal) ≤ (((k : ℝ) + 1 / 2 : ℝ) : EReal)) ↔ n ≤ k := by
  rw [EReal.coe_le_coe_iff]
  constructor
  · intro h
    by_contra hc
    have : (k : ℝ) + 1 ≤ n := by exact_mod_cast (by omega : k + 1 ≤ n)
    linarith
  · intro h
    have : (n : ℝ) ≤ k := by exact_mod_cast h
    linarith

/-- The four places that have a comparison, and which. -/
theorem gate_cases (d : Fin 11) (g : CmpFPredicate × BitVec 32) (hg : gate d = some g) :
    (d = 0 ∧ g = (.oge, 0xBF000000#32)) ∨ (d = 1 ∧ g = (.oge, 0xBFC00000#32)) ∨ (d = 9 ∧ g = (.ole, 0xBF000000#32))
      ∨ (d = 10 ∧ g = (.ole, 0xBFC00000#32)) := by
  fin_cases d <;> first
    | exact Or.inl ⟨rfl, (Option.some.inj hg).symm⟩
    | exact Or.inr (Or.inl ⟨rfl, (Option.some.inj hg).symm⟩)
    | exact Or.inr (Or.inr (Or.inl ⟨rfl, (Option.some.inj hg).symm⟩))
    | exact Or.inr (Or.inr (Or.inr ⟨rfl, (Option.some.inj hg).symm⟩))
    | exact absurd hg (by simp [gate])

/-- A place's comparison, where it has one, says that the displacement `4 - d` is near the offset. -/
theorem gate_some (d : Fin 11) (g : CmpFPredicate × BitVec 32) (hg : gate d = some g) (q : ℝ) (hq : -2 ≤ ⌊q⌋ ∧ ⌊q⌋ ≤ 0) :
    FloatOps.cmpf (F := Ideal) (φ := .f32) g.1 (Ideal.liftRound Int.floor (q : EReal)) (Ideal.ofBits .f32 g.2)
      = BitVec.ofBool (decide (Near q (4 - d.val))) := by
  have e1 : Ideal.ofBits .f32 0xBF000000#32 = (((0 : ℤ) : ℝ) - 1 / 2 : ℝ) := by rw [neg_half_eq]; congr 1; norm_num
  have e2 : Ideal.ofBits .f32 0xBFC00000#32 = (((-1 : ℤ) : ℝ) - 1 / 2 : ℝ) := by rw [neg_three_halves_eq]; congr 1; norm_num
  have e3 : Ideal.ofBits .f32 0xBF000000#32 = (((-1 : ℤ) : ℝ) + 1 / 2 : ℝ) := by rw [neg_half_eq]; congr 1; norm_num
  have e4 : Ideal.ofBits .f32 0xBFC00000#32 = (((-2 : ℤ) : ℝ) + 1 / 2 : ℝ) := by rw [neg_three_halves_eq]; congr 1; norm_num
  have key : ∀ (P Q : Prop) [Decidable P] [Decidable Q], (P ↔ Q) → BitVec.ofBool (decide P) = BitVec.ofBool (decide Q) :=
    fun P Q _ _ h => by simp only [h]
  rw [Ideal.liftRound_coe]
  rcases gate_cases d g hg with ⟨rfl, rfl⟩ | ⟨rfl, rfl⟩ | ⟨rfl, rfl⟩ | ⟨rfl, rfl⟩
  · refine key _ _ ?_
    show Ideal.ofBits .f32 0xBF000000#32 ≤ _ ↔ _
    rw [e1, int_ge]; unfold Near; simp; omega
  · refine key _ _ ?_
    show Ideal.ofBits .f32 0xBFC00000#32 ≤ _ ↔ _
    rw [e2, int_ge]; unfold Near; simp; omega
  · refine key _ _ ?_
    show _ ≤ Ideal.ofBits .f32 0xBF000000#32 ↔ _
    rw [e3, int_le]; unfold Near; simp; omega
  · refine key _ _ ?_
    show _ ≤ Ideal.ofBits .f32 0xBFC00000#32 ↔ _
    rw [e4, int_le]; unfold Near; simp; omega

/-- A place without a comparison has its displacement near every offset. -/
theorem gate_none (d : Fin 11) (hg : gate d = none) (q : ℝ) (hq : -2 ≤ ⌊q⌋ ∧ ⌊q⌋ ≤ 0) : Near q (4 - d.val) := by
  unfold Near
  have hd : 2 ≤ d.val ∧ d.val ≤ 8 := by
    revert hg; revert d; decide
  omega

/-! ## The weight -/

section Weight

variable (M : Maps Ideal) (p : Fin 8 → EReal)

/-- The five maps hold, at one place of the padded arrays, what the predicted numbers `p` make of them. -/
structure Holds (k : S122x234.Idx) : Prop where
  qx : M.qx k = (offX p : EReal)
  qy : M.qy k = (offY p : EReal)
  nA : M.nA k = ((-(1 / 2) * covC p * (1 / det p) : ℝ) : EReal)
  nB : M.nB k = ((covB p * (1 / det p) : ℝ) : EReal)
  nC : M.nC k = ((-(1 / 2) * covA p * (1 / det p) : ℝ) : EReal)

variable {M p}

/-- The unmasked weight is the Gaussian's value at the displacement of the output pixel's centre. -/
theorem alpha_eq (dw dh : Fin 11) (r : Fin 112) (w : Fin 224) (h : Holds M p (ix2 (srcRow dh r) (srcCol dw w))) :
    alpha M dw dh (ix2 r w)
      = (bell p (((4 - dw.val : ℤ) : ℝ) + 1 / 2 - offX p) (((4 - dh.val : ℤ) : ℝ) + 1 / 2 - offY p) : EReal) := by
  unfold alpha
  pointwise [row_col_apply, zero]
  rw [h.qx, h.qy, h.nA, h.nB, h.nC, centre_eq, centre_eq]
  rw [← EReal.coe_zero]
  simp only [← EReal.coe_sub, ← EReal.coe_mul, ← EReal.coe_add, ← coe_min]
  rw [Ideal.exp_coe, bell, form]
  congr 3
  push_cast
  ring

/-- The weight at a place is the spread of its source over the displacement of that place. -/
theorem weight_eq (dw dh : Fin 11) (r : Fin 112) (w : Fin 224) (h : Holds M p (ix2 (srcRow dh r) (srcCol dw w))) :
    weight M dw dh (ix2 r w) = spread p (4 - dw.val) (4 - dh.val) := by
  have hx : -2 ≤ ⌊offX p⌋ ∧ ⌊offX p⌋ ≤ 0 := floor_off (p 6)
  have hy : -2 ≤ ⌊offY p⌋ ∧ ⌊offY p⌋ ≤ 0 := floor_off (p 7)
  have hz : zero (F := Ideal) (ix2 r w) = 0 := by pointwise [zero]
  have ha := alpha_eq dw dh r w h
  have hp : ∀ (P : Prop) [Decidable P] (a b : EReal), (Scalar.select (BitVec.ofBool (decide P)) a b : EReal) = if P then a else b := by
    intro P _ a b
    by_cases hP : P <;> simp [hP, Scalar.select]
  unfold weight spread
  rcases hgx : gate dw with _ | gx <;> rcases hgy : gate dh with _ | gy <;> simp only
  · rw [if_pos ⟨gate_none dw hgx _ hx, gate_none dh hgy _ hy⟩, ha]
  · show Scalar.select _ _ _ = _
    rw [passes_row_apply, h.qy, gate_some dh gy hgy _ hy, hp, ha, hz]
    simp only [gate_none dw hgx _ hx, true_and]
  · show Scalar.select _ _ _ = _
    rw [passes_col_apply, h.qx, gate_some dw gx hgx _ hx, hp, ha, hz]
    simp only [gate_none dh hgy _ hy, and_true]
  · show Scalar.select (IntOp.andi _ _) _ _ = _
    rw [passes_col_apply, passes_row_apply, h.qx, h.qy, gate_some dw gx hgx _ hx, gate_some dh gy hgy _ hy, ha, hz]
    rw [← hp (Near (offX p) (4 - dw.val) ∧ Near (offY p) (4 - dh.val))]
    congr 1
    by_cases h1 : Near (offX p) (4 - dw.val) <;> by_cases h2 : Near (offY p) (4 - dh.val) <;> simp [h1, h2, IntOp.andi]

end Weight

end Cert.KernelIdeal.Block

end
-- ==== Proof.Maps.lean ====
/-
  What a block's maps hold.

  From the predicted block the kernel makes the offset maps, the three coefficient maps and the colour maps, each padded
  with zeros by four columns on the left and six on the right. At a column inside the image each holds what the eight
  predicted numbers there make; a colour map is zero at every padded column and in every row outside the image.
-/
module

public import proofs.«01_k».proof.Proof.Weight

@[expose] public section

set_option maxRecDepth 16384

noncomputable section

namespace Cert.KernelIdeal.Block

open Cert.KernelIdeal Cert.KernelIdeal.Gen Idealize.ShloMosaic Cert.Splat

/-! ## Constants -/

/-- The word of one. -/
theorem one_eq : Ideal.ofBits .f32 0x3F800000#32 = ((1 : ℝ) : EReal) := by
  rw [Ideal.ofBits_one_f32]; rfl

/-- The word of the float nearest `2π`. -/
theorem two_pi_eq : Ideal.ofBits .f32 0x40C90FDB#32 = ((13176795 / 2097152 : ℝ) : EReal) := by
  simp [Ideal.ofBits, Ideal.ieee, -EReal.coe_mul]; norm_num

/-- The word of the float nearest a millionth. -/
theorem millionth_eq : Ideal.ofBits .f32 0x358637BD#32 = ((8796093 / 8796093022208 : ℝ) : EReal) := by
  simp [Ideal.ofBits, Ideal.ieee, -EReal.coe_mul]; norm_num

/-- The word of the float nearest `10⁻¹²`. -/
theorem tiny_eq : Ideal.ofBits .f32 0x2B8CBCCC#32 = ((9223372 / 9223372036854775808 : ℝ) : EReal) := by
  simp [Ideal.ofBits, Ideal.ieee, -EReal.coe_mul]; norm_num

/-- The word of 112. -/
theorem n112_eq : Ideal.ofBits .f32 0x42E00000#32 = ((112 : ℝ) : EReal) := by
  simp [Ideal.ofBits, Ideal.ieee, -EReal.coe_mul]; norm_num

/-! ## The coefficients before padding -/

section Coefficients

variable (h b : FVec Ideal S8x122x224 .f32) (k : Fin 122) (j : Fin 224)

/-- The eight predicted numbers at a source. -/
def at8 (n : Fin 8) : EReal := k0_pay30 (F := Ideal) h b (ix3 n k j)

/-- The angle at a source. -/
theorem pay31_apply : k0_pay31 (F := Ideal) h b (ix2 k j) = (angle (at8 h b k j) : EReal) := by
  have e : k0_pay31 (F := Ideal) h b (ix2 k j) = Ideal.logistic (at8 h b k j 3) * Ideal.ofBits .f32 0x40C90FDB#32 := by
    pointwise [k0_pay31, at8]
  rw [e, logistic_eq, two_pi_eq, ← EReal.coe_mul]; rfl

/-- The cosine at a source. -/
theorem pay32_apply : k0_pay32 (F := Ideal) h b (ix2 k j) = (Real.cos (angle (at8 h b k j)) : EReal) := by
  have e : k0_pay32 (F := Ideal) h b (ix2 k j) = Ideal.cos (k0_pay31 (F := Ideal) h b (ix2 k j)) := rfl
  rw [e, pay31_apply]; rfl

/-- The sine at a source. -/
theorem pay33_apply : k0_pay33 (F := Ideal) h b (ix2 k j) = (Real.sin (angle (at8 h b k j)) : EReal) := by
  have e : k0_pay33 (F := Ideal) h b (ix2 k j) = Ideal.sin (k0_pay31 (F := Ideal) h b (ix2 k j)) := rfl
  rw [e, pay31_apply]; rfl

/-- The square of the first scale at a source. -/
theorem pay34_apply :
    k0_pay34 (F := Ideal) h b (ix2 k j) = ((scaleX (at8 h b k j) * scaleX (at8 h b k j) : ℝ) : EReal) := by
  have e : k0_pay34 (F := Ideal) h b (ix2 k j)
      = (Ideal.logistic (at8 h b k j 4) * Ideal.ofBits .f32 0x3F000000#32 + Ideal.ofBits .f32 0x358637BD#32) * Ideal.ofBits .f32 0x42E00000#32
        * ((Ideal.logistic (at8 h b k j 4) * Ideal.ofBits .f32 0x3F000000#32 + Ideal.ofBits .f32 0x358637BD#32) * Ideal.ofBits .f32 0x42E00000#32) := by
    pointwise [k0_pay34, at8]
  rw [e, logistic_eq, half_eq, millionth_eq, n112_eq]
  simp only [← EReal.coe_mul, ← EReal.coe_add]; rfl

/-- The square of the second scale at a source. -/
theorem pay35_apply :
    k0_pay35 (F := Ideal) h b (ix2 k j) = ((scaleY (at8 h b k j) * scaleY (at8 h b k j) : ℝ) : EReal) := by
  have e : k0_pay35 (F := Ideal) h b (ix2 k j)
      = (Ideal.logistic (at8 h b k j 5) * Ideal.ofBits .f32 0x3F000000#32 + Ideal.ofBits .f32 0x358637BD#32) * Ideal.ofBits .f32 0x42E00000#32
        * ((Ideal.logistic (at8 h b k j 5) * Ideal.ofBits .f32 0x3F000000#32 + Ideal.ofBits .f32 0x358637BD#32) * Ideal.ofBits .f32 0x42E00000#32) := by
    pointwise [k0_pay35, at8]
  rw [e, logistic_eq, half_eq, millionth_eq, n112_eq]
  simp only [← EReal.coe_mul, ← EReal.coe_add]; rfl

/-- The covariance's first diagonal entry at a source. -/
theorem pay36_apply : k0_pay36 (F := Ideal) h b (ix2 k j) = (covA (at8 h b k j) : EReal) := by
  pointwise [k0_pay36]
  simp only [pay32_apply, pay33_apply, pay34_apply, pay35_apply, ← EReal.coe_mul, ← EReal.coe_add]; rfl

/-- The covariance's entry off the diagonal at a source. -/
theorem pay37_apply : k0_pay37 (F := Ideal) h b (ix2 k j) = (covB (at8 h b k j) : EReal) := by
  pointwise [k0_pay37]
  simp only [pay32_apply, pay33_apply, pay34_apply, pay35_apply, ← EReal.coe_mul, ← EReal.coe_sub]; rfl

/-- The covariance's second diagonal entry at a source. -/
theorem pay38_apply : k0_pay38 (F := Ideal) h b (ix2 k j) = (covC (at8 h b k j) : EReal) := by
  pointwise [k0_pay38]
  simp only [pay32_apply, pay33_apply, pay34_apply, pay35_apply, ← EReal.coe_mul, ← EReal.coe_add]; rfl

/-- The reciprocal of the determinant at a source. -/
theorem pay39_apply : k0_pay39 (F := Ideal) h b (ix2 k j) = ((1 / det (at8 h b k j) : ℝ) : EReal) := by
  have e : k0_pay39 (F := Ideal) h b (ix2 k j)
      = Ideal.div (Ideal.ofBits .f32 0x3F800000#32) (k0_pay36 (F := Ideal) h b (ix2 k j) * k0_pay38 (F := Ideal) h b (ix2 k j)
        - k0_pay37 (F := Ideal) h b (ix2 k j) * k0_pay37 (F := Ideal) h b (ix2 k j) + Ideal.ofBits .f32 0x2B8CBCCC#32) := rfl
  rw [e, pay36_apply, pay37_apply, pay38_apply, one_eq, tiny_eq]
  simp only [← EReal.coe_mul, ← EReal.coe_sub, ← EReal.coe_add]
  have hd : covA (at8 h b k j) * covC (at8 h b k j) - covB (at8 h b k j) * covB (at8 h b k j) + 9223372 / 9223372036854775808 ≠ 0 :=
    (det_pos (at8 h b k j)).ne'
  rw [Ideal.div_coe hd, ← EReal.coe_mul, one_mul]; rfl

end Coefficients

/-! ## Padding -/

/-- A map of 224 columns with a constant in the four columns before and the six after. -/
def padded {F : FTy → Type} (z : F .f32) (x : FVec F S122x224 .f32) : FVec F S122x234 .f32 :=
  concatenate S122x234 1 [⟨S122x228, concatenate S122x228 1 [⟨S122x4, broadcast S122x4 z⟩, ⟨S122x224, x⟩]
    concatenates_S122x4_S122x224_S122x228_d1⟩, ⟨S122x6, broadcast S122x6 z⟩] concatenates_S122x228_S122x6_S122x234_d1

/-- A padded map at an index. -/
theorem padded_apply {F : FTy → Type} (z : F .f32) (x : FVec F S122x224 .f32) (k : Fin 122) (c : Fin 234) :
    padded z x (ix2 k c) = if h : 4 ≤ c.val ∧ c.val < 228 then x (ix2 k ⟨c.val - 4, by omega⟩) else z := by
  pointwise [padded]
  by_cases h : 4 ≤ c.val ∧ c.val < 228
  · simp [h.1, h.2, show ¬ c.val < 4 by omega]
  · by_cases h1 : c.val < 228
    · simp [h1, show c.val < 4 by omega]
    · simp [h1]

/-! ## The maps -/

section Maps

variable (h b : FVec Ideal S8x122x224 .f32)

/-- The integer zero as a float is zero. -/
theorem zero_float : (Scalar.sitofp (F := Ideal) .f32 0#32 : EReal) = 0 := by simp

/-- A padded map at a column inside the image. -/
theorem padded_inside (z : EReal) (x : FVec Ideal S122x224 .f32) (k : Fin 122) (c : Fin 234) (j : Fin 224) (hc : c.val = j.val + 4) :
    padded (F := Ideal) z x (ix2 k c) = x (ix2 k j) := by
  rw [padded_apply, dif_pos (by omega)]
  congr 2
  exact Fin.ext (by simp only; omega)

/-- The offset map of plane `n`: its hyperbolic tangent less one half. -/
def offset (n : Nat) (hn : S8x122x224.Slices ![n, 0, 0] S1x122x224) (x : FVec Ideal S8x122x224 .f32) : FVec Ideal S122x224 .f32 :=
  subf (tanh (shapeCast S122x224 (extractStridedSlice S1x122x224 ![n, 0, 0] x hn) shapeCasts_S1x122x224_S122x224))
    (broadcast S122x224 (Scalar.ofBits .f32 0x3F000000#32))

/-- Inside the image the maps hold what the predicted numbers make. -/
theorem maps_hold (k : Fin 122) (c : Fin 234) (j : Fin 224) (hc : c.val = j.val + 4) :
    Holds (maps h b) (at8 h b k j) (ix2 k c) where
  qx := by
    have e : (maps h b).qx = padded (F := Ideal) (Scalar.sitofp .f32 0#32) (offset 6 slices_S8x122x224_o6_0_0_S1x122x224 (k0_pay30 h b)) := rfl
    have e' : offset 6 slices_S8x122x224_o6_0_0_S1x122x224 (k0_pay30 (F := Ideal) h b) (ix2 k j)
        = Ideal.tanh (at8 h b k j 6) - Ideal.ofBits .f32 0x3F000000#32 := by
      pointwise [offset, at8]
    rw [e, padded_inside _ _ k c j hc, e', tanh_eq, half_eq, ← EReal.coe_sub]; rfl
  qy := by
    have e : (maps h b).qy = padded (F := Ideal) (Scalar.sitofp .f32 0#32) (offset 7 slices_S8x122x224_o7_0_0_S1x122x224 (k0_pay30 h b)) := rfl
    have e' : offset 7 slices_S8x122x224_o7_0_0_S1x122x224 (k0_pay30 (F := Ideal) h b) (ix2 k j)
        = Ideal.tanh (at8 h b k j 7) - Ideal.ofBits .f32 0x3F000000#32 := by
      pointwise [offset, at8]
    rw [e, padded_inside _ _ k c j hc, e', tanh_eq, half_eq, ← EReal.coe_sub]; rfl
  nA := by
    have e : (maps h b).nA = padded (F := Ideal) (Scalar.sitofp .f32 0#32)
      (mulf (mulf (broadcast S122x224 (Scalar.ofBits .f32 0xBF000000#32)) (k0_pay38 h b)) (k0_pay39 h b)) := rfl
    rw [e, padded_inside _ _ k c j hc]
    show Ideal.ofBits .f32 0xBF000000#32 * k0_pay38 (F := Ideal) h b (ix2 k j) * k0_pay39 (F := Ideal) h b (ix2 k j) = _
    rw [neg_half_eq, pay38_apply, pay39_apply, ← EReal.coe_mul, ← EReal.coe_mul]
  nB := by
    have e : (maps h b).nB = padded (F := Ideal) (Scalar.sitofp .f32 0#32) (mulf (k0_pay37 h b) (k0_pay39 h b)) := rfl
    rw [e, padded_inside _ _ k c j hc]
    show k0_pay37 (F := Ideal) h b (ix2 k j) * k0_pay39 (F := Ideal) h b (ix2 k j) = _
    rw [pay37_apply, pay39_apply, ← EReal.coe_mul]
  nC := by
    have e : (maps h b).nC = padded (F := Ideal) (Scalar.sitofp .f32 0#32)
      (mulf (mulf (broadcast S122x224 (Scalar.ofBits .f32 0xBF000000#32)) (k0_pay36 h b)) (k0_pay39 h b)) := rfl
    rw [e, padded_inside _ _ k c j hc]
    show Ideal.ofBits .f32 0xBF000000#32 * k0_pay36 (F := Ideal) h b (ix2 k j) * k0_pay39 (F := Ideal) h b (ix2 k j) = _
    rw [neg_half_eq, pay36_apply, pay39_apply, ← EReal.coe_mul, ← EReal.coe_mul]

end Maps

/-! ## The colours -/

section Colours

/-- The image row of block `t`'s first extended row, as the kernel computes it: `112 t - 4`. -/
def firstRow (t : Nat) : BitVec 32 := Scalar.subi (Scalar.muli (BitVec.ofNat 32 t) 112#32) 4#32

/-- The mask of an extended row says whether its image row is inside the image. -/
theorem mask_apply (t : Fin 2) (k : Fin 122) (c : Fin 224) :
    k0_pay40 (iota .tc S122x224 32 [0] iota_S122x224_d0_w32) (firstRow t.val) (ix2 k c)
      = BitVec.ofBool (decide (4 ≤ k.val + 112 * t.val ∧ k.val + 112 * t.val < 228)) := by
  have e : k0_pay40 (iota .tc S122x224 32 [0] iota_S122x224_d0_w32) (firstRow t.val) (ix2 k c)
      = IntOp.andi (IntOp.cmpi .sge (IntOp.addi (BitVec.ofNat 32 k.val) (firstRow t.val)) 0#32)
        (IntOp.cmpi .slt (IntOp.addi (BitVec.ofNat 32 k.val) (firstRow t.val)) 224#32) := by
    pointwise [k0_pay40]
  rw [e]
  clear e
  revert t k
  decide +kernel

variable (t : Fin 2) (x : FVec Ideal S8x122x224 .f32)

/-- The masked colour plane `n`. -/
def masked (n : Nat) (hn : S8x122x224.Slices ![n, 0, 0] S1x122x224) : FVec Ideal S122x224 .f32 :=
  select (k0_pay40 (iota .tc S122x224 32 [0] iota_S122x224_d0_w32) (firstRow t.val))
    (shapeCast S122x224 (extractStridedSlice S1x122x224 ![n, 0, 0] x hn) shapeCasts_S1x122x224_S122x224) k0_pay41

/-- A padded and masked colour plane at an index. -/
theorem masked_apply (ch : Fin 3) (hn : S8x122x224.Slices ![ch.val, 0, 0] S1x122x224) (k : Fin 122) (c : Fin 234) :
    padded (F := Ideal) (Scalar.sitofp .f32 0#32) (masked t x ch.val hn) (ix2 k c)
      = if h : (4 ≤ k.val + 112 * t.val ∧ k.val + 112 * t.val < 228) ∧ (4 ≤ c.val ∧ c.val < 228) then
          x (ix3 ⟨ch.val, by omega⟩ k ⟨c.val - 4, by omega⟩) else 0 := by
  rw [padded_apply, zero_float]
  by_cases hc : 4 ≤ c.val ∧ c.val < 228
  · rw [dif_pos hc]
    have e : masked t x ch.val hn (ix2 k ⟨c.val - 4, by omega⟩)
        = Scalar.select (k0_pay40 (iota .tc S122x224 32 [0] iota_S122x224_d0_w32) (firstRow t.val) (ix2 k ⟨c.val - 4, by omega⟩))
          (x (ix3 ⟨ch.val, by omega⟩ k ⟨c.val - 4, by omega⟩)) 0 := by
      pointwise [masked, k0_pay41]
    rw [e, mask_apply]
    by_cases hk : 4 ≤ k.val + 112 * t.val ∧ k.val + 112 * t.val < 228
    · rw [dif_pos ⟨hk, hc⟩]; simp [hk, Scalar.select]
    · rw [dif_neg fun hh => hk hh.1]; simp only [hk]; rfl
  · rw [dif_neg hc, dif_neg fun hh => hc hh.2]

/-- The colour map of channel `ch` at an index. -/
theorem colour_apply (ch : Fin 3) (k : Fin 122) (c : Fin 234) :
    colour (F := Ideal) (firstRow t.val) ch x (ix2 k c)
      = if h : (4 ≤ k.val + 112 * t.val ∧ k.val + 112 * t.val < 228) ∧ (4 ≤ c.val ∧ c.val < 228) then
          x (ix3 ⟨ch.val, by omega⟩ k ⟨c.val - 4, by omega⟩) else 0 := by
  match ch with
  | 0 => exact masked_apply t x 0 slices_S8x122x224_o0_0_0_S1x122x224 k c
  | 1 => exact masked_apply t x 1 slices_S8x122x224_o1_0_0_S1x122x224 k c
  | 2 => exact masked_apply t x 2 slices_S8x122x224_o2_0_0_S1x122x224 k c

end Colours

end Cert.KernelIdeal.Block

end
-- ==== Proof.Window.lean ====
/-
  The kernel's window is the sum over all sources.

  The kernel adds up an 11 × 11 window of sources for each output pixel; `image` adds up all 224 × 224 of them. A source
  outside the window is not near the pixel, so its weight is zero; a window place outside the image has colour zero.
-/
module

public import proofs.«01_k».proof.Proof.Weight

@[expose] public section

set_option maxRecDepth 16384

noncomputable section

namespace Cert.KernelIdeal.Block

open Cert.KernelIdeal Cert.KernelIdeal.Gen Idealize.ShloMosaic Cert.Splat

/-- The kernel's total is the sum over the columns and rows of its window. -/
theorem total_apply (M : Maps Ideal) (x : FVec Ideal S122x234 .f32) (r : Fin 112) (w : Fin 224) :
    total M x (ix2 r w)
      = ∑ dw : Fin 11, ∑ dh : Fin 11, weight M dw dh (ix2 r w) * x (ix2 (srcRow dh r) (srcCol dw w)) := by
  have hc : ∀ dw : Fin 11, column M x dw (ix2 r w)
      = ∑ dh : Fin 11, weight M dw dh (ix2 r w) * x (ix2 (srcRow dh r) (srcCol dw w)) := by
    intro dw
    simp only [Fin.sum_univ_succ, Fin.sum_univ_zero]
    pointwise [column, place, zero, row_col_apply]
    simp only [zero_add, add_zero, add_assoc]
    rfl
  have ht : total M x (ix2 r w) = ∑ dw : Fin 11, column M x dw (ix2 r w) := by
    simp only [Fin.sum_univ_succ, Fin.sum_univ_zero]
    pointwise [total, pair]
    simp only [add_zero, add_assoc]
    rfl
  rw [ht]
  exact Finset.sum_congr rfl fun dw _ => hc dw

/-- A sum over the eleven places around a column, those outside the image left out, is the sum over all columns of a
    function that is zero off those places. -/
theorem window_sum (w : Fin 224) (f : Fin 224 → EReal) (hf : ∀ j, f j ≠ 0 → w.val ≤ j.val + 4 ∧ j.val ≤ w.val + 6) :
    (∑ d : Fin 11, if h : 4 ≤ d.val + w.val ∧ d.val + w.val < 228 then f ⟨d.val + w.val - 4, by omega⟩ else 0) = ∑ j, f j := by
  refine Finset.sum_bij_ne_zero (fun d _ hd => ⟨d.val + w.val - 4, ?_⟩) ?_ ?_ ?_ ?_
  · by_contra hc
    exact hd (dif_neg (by omega))
  · intros; exact Finset.mem_univ _
  · intro a _ ha b _ hb e
    have h1 : 4 ≤ a.val + w.val := by by_contra hc; exact ha (dif_neg (by omega))
    have h2 : 4 ≤ b.val + w.val := by by_contra hc; exact hb (dif_neg (by omega))
    have := congrArg Fin.val e
    simp only at this
    exact Fin.ext (by omega)
  · intro j _ hj
    have h := hf j hj
    have hd : (if h : 4 ≤ (j.val + 4 - w.val) + w.val ∧ (j.val + 4 - w.val) + w.val < 228 then
        f ⟨(j.val + 4 - w.val) + w.val - 4, by omega⟩ else 0) = f j := by
      rw [dif_pos (by omega)]
      congr 1
      exact Fin.ext (by simp only; omega)
    exact ⟨⟨j.val + 4 - w.val, by omega⟩, Finset.mem_univ _, by rw [hd]; exact hj, Fin.ext (by simp only; omega)⟩
  · intro d _ hd
    exact dif_pos (by by_contra hc; exact hd (dif_neg hc))

section Channel

variable (M : Maps Ideal) (x : FVec Ideal S122x234 .f32) (pred : Fin 8 → Fin 224 → Fin 224 → EReal) (t : Fin 2) (ch : Fin 8)

/-- The maps of block `t` hold what the predicted image makes of them, at every source inside the image. -/
def MapsHold : Prop :=
  ∀ (k : Fin 122) (c : Fin 234) (i j : Fin 224), k.val + 112 * t.val = i.val + 4 → c.val = j.val + 4 →
    Holds M (fun n => pred n i j) (ix2 k c)

/-- The colour map of block `t` holds the predicted colour inside the image and zero outside. -/
def ColourHolds : Prop :=
  ∀ (k : Fin 122) (c : Fin 234), x (ix2 k c)
    = if h : (4 ≤ k.val + 112 * t.val ∧ k.val + 112 * t.val < 228) ∧ (4 ≤ c.val ∧ c.val < 228) then
        pred ch ⟨k.val + 112 * t.val - 4, by omega⟩ ⟨c.val - 4, by omega⟩ else 0

variable {M x pred t ch}

/-- Channel `ch` of block `t` is the clipped sum over all sources. -/
theorem channel_eq (hM : MapsHold M pred t) (hx : ColourHolds x pred t ch) (r : Fin 112) (w : Fin 224) :
    channel M x (ix2 r w) = image pred ch ⟨112 * t.val + r.val, by omega⟩ w := by
  set h : Fin 224 := ⟨112 * t.val + r.val, by omega⟩ with hh
  have hterm : ∀ dw dh : Fin 11, weight M dw dh (ix2 r w) * x (ix2 (srcRow dh r) (srcCol dw w))
      = if hj : 4 ≤ dw.val + w.val ∧ dw.val + w.val < 228 then
          (if hi : 4 ≤ dh.val + h.val ∧ dh.val + h.val < 228 then
            (fun i j : Fin 224 => spread (fun k => pred k i j) ((w : ℤ) - j) ((h : ℤ) - i) * pred ch i j)
              ⟨dh.val + h.val - 4, by omega⟩ ⟨dw.val + w.val - 4, by omega⟩ else 0) else 0 := by
    intro dw dh
    rw [hx]
    by_cases hj : 4 ≤ dw.val + w.val ∧ dw.val + w.val < 228
    · by_cases hi : 4 ≤ dh.val + h.val ∧ dh.val + h.val < 228
      · rw [dif_pos hj, dif_pos hi, dif_pos ⟨by simp only [srcRow, hh] at hi ⊢; omega, hj⟩]
        have e1 : (⟨(srcRow dh r).val + 112 * t.val - 4, by simp only [srcRow, hh] at hi ⊢; omega⟩ : Fin 224)
            = ⟨dh.val + h.val - 4, by omega⟩ := Fin.ext (by simp only [srcRow, hh]; omega)
        rw [weight_eq dw dh r w (hM (srcRow dh r) (srcCol dw w) ⟨dh.val + h.val - 4, by omega⟩ ⟨dw.val + w.val - 4, by omega⟩
          (by simp only [srcRow, hh] at hi ⊢; omega) (by simp only [srcCol]; omega))]
        have a1 : ((4 : ℤ) - dw.val) = (w : ℤ) - ((⟨dw.val + w.val - 4, by omega⟩ : Fin 224) : ℕ) := by simp only; omega
        have a2 : ((4 : ℤ) - dh.val) = (h : ℤ) - ((⟨dh.val + h.val - 4, by omega⟩ : Fin 224) : ℕ) := by simp only; omega
        rw [a1, a2, e1]
        rfl
      · rw [dif_pos hj, dif_neg hi, dif_neg (by rintro ⟨h1, -⟩; exact hi (by simp only [srcRow, hh] at h1 ⊢; omega)), mul_zero]
    · rw [dif_neg hj, dif_neg (by rintro ⟨-, h2⟩; exact hj h2), mul_zero]
  have htot : total M x (ix2 r w)
      = ∑ i : Fin 224, ∑ j : Fin 224, spread (fun k => pred k i j) ((w : ℤ) - j) ((h : ℤ) - i) * pred ch i j := by
    rw [total_apply]
    simp only [hterm]
    have hz : ∀ i j : Fin 224, spread (fun k => pred k i j) ((w : ℤ) - j) ((h : ℤ) - i) * pred ch i j ≠ 0 →
        (w.val ≤ j.val + 4 ∧ j.val ≤ w.val + 6) ∧ (h.val ≤ i.val + 4 ∧ i.val ≤ h.val + 6) := by
      intro i j hne
      have hs : Near (offX fun k => pred k i j) ((w : ℤ) - j) ∧ Near (offY fun k => pred k i j) ((h : ℤ) - i) := by
        by_contra hc
        exact hne (by rw [spread, if_neg hc, zero_mul])
      have h1 := near_range hs.1
      have h2 := near_range hs.2
      omega
    rw [Finset.sum_comm (s := (Finset.univ : Finset (Fin 224)))]
    rw [← window_sum w _ (fun j hj => by
      obtain ⟨i, -, hi⟩ := Finset.exists_ne_zero_of_sum_ne_zero hj
      exact (hz i j hi).1)]
    refine Finset.sum_congr rfl fun dw _ => ?_
    by_cases hj : 4 ≤ dw.val + w.val ∧ dw.val + w.val < 228
    · simp only [dif_pos hj]
      exact window_sum h (fun i => spread (fun k => pred k i ⟨dw.val + w.val - 4, by omega⟩)
        ((w : ℤ) - ((⟨dw.val + w.val - 4, by omega⟩ : Fin 224) : ℕ)) ((h : ℤ) - i) * pred ch i ⟨dw.val + w.val - 4, by omega⟩)
        (fun i hi => (hz i _ hi).2)
    · simp only [dif_neg hj, Finset.sum_const_zero]
  rw [image, ← htot]
  pointwise [channel, zero]

end Channel

end Cert.KernelIdeal.Block

end
-- ==== Proof.Head.lean ====
/-
  What a block predicts.

  A grid point stacks 27 shifted copies of its padded slab, one per input channel and tap, multiplies by the encoder's
  weights, adds the bias, rectifies, multiplies by the head's weights and adds its bias. `block_apply` reads the result
  at an index: a sum over the 64 features of the rectified sum over the 27 taps.
-/
module

public import proofs.«01_k».proof.Proof.Block
public import Idealize.ShloMosaic.Lib.Pointwise
public import Idealize.ShloMosaic.Lib.Pipeline.ValueKit
public import Idealize.ShloMosaic.Lib.Pipeline.Value

@[expose] public section

set_option maxRecDepth 16384

noncomputable section

namespace Cert.KernelIdeal.Block

open Cert.KernelIdeal Cert.KernelIdeal.Gen Idealize.ShloMosaic

section Stack

variable {F : FTy → Type} [FloatOps F]

/-- Tap `q`'s window fits in the slab. -/
theorem tap_fits (q : Fin 27) : S3x128x226.Slices ![q.val / 9, q.val / 3 % 3, q.val % 3] S1x122x224 := by
  revert q; decide

/-- The slab shifted for tap `q`: channel `q / 9`, down by `q / 3 % 3`, right by `q % 3`. -/
def tap (v2 : Vec F S1x3x128x226 .f32) (q : Fin 27) : FVec F S1x122x224 .f32 :=
  shapeCast S1x122x224 (shapeCast S122x224 (extractStridedSlice S1x122x224 ![q.val / 9, q.val / 3 % 3, q.val % 3] (k0_pay2 v2)
    (tap_fits q)) shapeCasts_S1x122x224_S122x224) shapeCasts_S122x224_S1x122x224

/-- The shapes of the 27 taps stack to 27 rows. -/
theorem stack_fits (v2 : Vec F S1x3x128x226 .f32) : Shape.Concatenates
    ((List.ofFn fun q : Fin 27 => (⟨S1x122x224, tap v2 q⟩ : (s : Shape) × (s.Idx → F .f32))).map (·.1)) S27x122x224 0 := by
  have : (List.ofFn fun q : Fin 27 => (⟨S1x122x224, tap v2 q⟩ : (s : Shape) × (s.Idx → F .f32))).map (·.1)
      = List.replicate 27 S1x122x224 := by rw [List.map_ofFn]; rfl
  rw [this]; decide

/-- The 27 taps one above the other. -/
def stack (v2 : Vec F S1x3x128x226 .f32) : FVec F S27x122x224 .f32 :=
  concatenate S27x122x224 0 (List.ofFn fun q : Fin 27 => (⟨S1x122x224, tap v2 q⟩ : (s : Shape) × (s.Idx → F .f32))) (stack_fits v2)

/-- The rectified features of a stack of taps. -/
def features (x : FVec F S27x122x224 .f32) (v86 : Vec F S64x27 .f32) (v89 : Vec F S64x1 .f32) : FVec F S64x122x224 .f32 :=
  maximumf (addf (matmul dot_S64x27_S27x122x224_S64x122x224_1_0_0_12_n_n none (shapeCast S64x27 v86 shapeCasts_S64x27_S64x27) x
    (constant S64x122x224 .f32 0x00000000#32)) (broadcastTo S64x122x224 (shapeCast S64x1x1 (shapeCast S64x1 v89
      shapeCasts_S64x1_S64x1) shapeCasts_S64x1_S64x1x1) broadcasts_S64x1x1_S64x122x224))
    (broadcast S64x122x224 (Scalar.ofBits .f32 0x00000000#32))

/-- The head's product with the features. -/
def headOf (f : FVec F S64x122x224 .f32) (v96 : Vec F S8x64 .f32) : FVec F S8x122x224 .f32 :=
  matmul dot_S8x64_S64x122x224_S8x122x224_1_0_0_12_n_n none (shapeCast S8x64 v96 shapeCasts_S8x64_S8x64) f
    (constant S8x122x224 .f32 0x00000000#32)

/-- The kernel's product is the head's product with the features of the stacked taps. -/
theorem head_eq (v2 : Vec F S1x3x128x226 .f32) (v86 : Vec F S64x27 .f32) (v89 : Vec F S64x1 .f32) (v96 : Vec F S8x64 .f32) :
    head v2 v86 v89 v96 = headOf (features (stack v2) v86 v89) v96 := by
  sl_kernel_rfl

end Stack

section Read

variable (v2 : Vec Ideal S1x3x128x226 .f32) (v86 : Vec Ideal S64x27 .f32) (v89 : Vec Ideal S64x1 .f32)
  (v96 : Vec Ideal S8x64 .f32) (v99 : Vec Ideal S8x1 .f32)

/-- One tap at an index. -/
theorem tap_apply (q : Fin 27) (k : Fin 122) (j : Fin 224) :
    tap (F := Ideal) v2 q (ix3 0 k j)
      = v2 (ix4 0 ⟨q.val / 9, by omega⟩ ⟨q.val / 3 % 3 + k.val, by omega⟩ ⟨q.val % 3 + j.val, by omega⟩) := by
  pointwise [tap, k0_pay2]

/-- The stack at an index. -/
theorem stack_apply (q : Fin 27) (k : Fin 122) (j : Fin 224) :
    stack (F := Ideal) v2 (ix3 q k j)
      = v2 (ix4 0 ⟨q.val / 9, by omega⟩ ⟨q.val / 3 % 3 + k.val, by omega⟩ ⟨q.val % 3 + j.val, by omega⟩) := by
  rw [← tap_apply v2 q k j]
  refine concatenate_ofFn_unit_eq 0 _ _ _ _ rfl rfl fun n i hn h0 hb => ?_
  have e1 : n = q := Fin.ext hn.symm
  subst e1
  congr 1
  funext a
  match a with
  | 0 => exact Fin.ext h0
  | 1 => exact Fin.ext (hb 1 (by decide))
  | 2 => exact Fin.ext (hb 2 (by decide))

/-- The features at an index. -/
theorem features_apply (x : FVec Ideal S27x122x224 .f32) (f : Fin 64) (k : Fin 122) (j : Fin 224) :
    features (F := Ideal) x v86 v89 (ix3 f k j) = max ((∑ q : Fin 27, v86 (ix2 f q) * x (ix3 q k j)) + v89 (ix2 f 0)) 0 := by
  pointwise [features]

/-- The head's product at an index. -/
theorem headOf_apply (x : FVec Ideal S64x122x224 .f32) (n : Fin 8) (k : Fin 122) (j : Fin 224) :
    headOf (F := Ideal) x v96 (ix3 n k j) = ∑ f : Fin 64, v96 (ix2 n f) * x (ix3 f k j) := by
  pointwise [headOf]

/-- The predicted block at an index. -/
theorem block_apply (n : Fin 8) (k : Fin 122) (j : Fin 224) :
    k0_pay30 (F := Ideal) (head v2 v86 v89 v96) (k0_pay29 v99) (ix3 n k j)
      = (∑ f : Fin 64, v96 (ix2 n f) * max ((∑ q : Fin 27, v86 (ix2 f q)
          * v2 (ix4 0 ⟨q.val / 9, by omega⟩ ⟨q.val / 3 % 3 + k.val, by omega⟩ ⟨q.val % 3 + j.val, by omega⟩)) + v89 (ix2 f 0)) 0)
        + v99 (ix2 n 0) := by
  have h : k0_pay30 (F := Ideal) (head v2 v86 v89 v96) (k0_pay29 v99) (ix3 n k j)
      = head (F := Ideal) v2 v86 v89 v96 (ix3 n k j) + v99 (ix2 n 0) := by
    pointwise [k0_pay30, k0_pay29]
  rw [h, head_eq, headOf_apply]
  simp only [features_apply, stack_apply]

end Read

end Cert.KernelIdeal.Block

end
-- ==== Proof.BlockRun.lean ====
/- What one grid point leaves in the output's block: channel by channel the block function of what the point loads, which is
   a slab of 128 rows of the padded image and the four weight arrays whole. -/
module

public import proofs.«01_k».proof.Proof.Maps
public import proofs.«01_k».proof.Proof.Window
public import proofs.«01_k».proof.Proof.Head
public import proofs.«01_k».proof.Proof.Gen.KernelIdeal.Value
public import Idealize.ShloMosaic.Lib.Pipeline.ValueKit
public import Idealize.ShloMosaic.Lib.Pipeline.ValueKit.Tiles

@[expose] public section

set_option maxRecDepth 65536

noncomputable section

namespace Cert.KernelIdeal.Block

open Cert.KernelIdeal Cert.KernelIdeal.Gen
open Idealize.ShloMosaic Idealize.ShloMosaic.TcCoe Cert.Splat

variable {F : FTy → Type} [FloatOps F]

/-- The 128 rows of the padded image that grid point `i` loads, from row `112 t` on. -/
def slab (i : grid0.Coords) (x : Vec F S1x3x240x226 .f32) : Vec F S1x3x128x226 .f32 :=
  View.ld x (Rect.unit (s := S1x3x240x226) (k0_off1 i) S1x3x128x226.size (k0_off1_inb i))

/-- The row at which a tile's slab begins, as the kernel computes it. -/
theorem off1_row (t : Fin 2) : (Scalar.indexCast (Scalar.muli (BitVec.ofNat 32 t.val) 112#32)).toNat = 112 * t.val := by
  revert t; decide +kernel

/-- The slab at an index. -/
theorem slab_apply (i : grid0.Coords) (x : Vec F S1x3x240x226 .f32) (t : Fin 2) (ht : (i 1).val = t.val) (ci : Fin 3) (a : Fin 128) (b : Fin 226) :
    slab i x (ix4 (0 : Fin 1) ci a b) = x (ix4 (0 : Fin 1) ci ⟨112 * t.val + a.val, by omega⟩ b) := by
  refine View.ld_unit_apply_of _ _ _ _ _ _ fun d => ?_
  have h : (Scalar.indexCast (Scalar.muli (BitVec.ofNat 32 (i 1).val) 112#32)).toNat = 112 * t.val := by rw [ht]; exact off1_row t
  match d with
  | 0 => rfl
  | 1 => show ci.val = 0 + ci.val; omega
  | 2 => show 112 * t.val + a.val = (Scalar.indexCast (Scalar.muli (BitVec.ofNat 32 (i 1).val) 112#32)).toNat + a.val; rw [h]
  | 3 => show b.val = 0 + b.val; omega

section Run

variable (c : Dev nD) (i : grid0.Coords)
  (arg2 : Memref sig .tc .vmem S1x3x240x226 .f32) (harg2 : arg2.IsWhole) (arg3 : Memref sig .tc .vmem S64x27 .f32) (harg3 : arg3.IsWhole)
  (arg4 : Memref sig .tc .vmem S64x1 .f32) (harg4 : arg4.IsWhole) (arg5 : Memref sig .tc .vmem S8x64 .f32) (harg5 : arg5.IsWhole)
  (arg6 : Memref sig .tc .vmem S8x1 .f32) (harg6 : arg6.IsWhole) (arg7 : Memref sig .tc .vmem S1x3x112x224 .f32) (harg7 : arg7.IsWhole)
  (x0 : Vec F S1x3x240x226 .f32) (x1 : Vec F S64x27 .f32) (x2 : Vec F S64x1 .f32) (x3 : Vec F S8x64 .f32) (x4 : Vec F S8x1 .f32)

/-- Channel `ch` of the block, from the blocks of the inputs. -/
def block (ch : Fin 3) : FVec F S1x1x112x224 .f32 :=
  result (slab i x0) x1 x2 x3 x4 (firstRow (i 1).val) ch

/-- The block function of what the loads read through the staging buffers. -/
def loaded (ch : Fin 3) : FVec F S1x1x112x224 .f32 :=
  result (View.readAt (Elt F) arg2.view (Rect.unit (s := S1x3x240x226) (k0_off1 i) S1x3x128x226.size (k0_off1_inb i)).toLoadRect (harg2.unread x0))
    (View.readAt (Elt F) arg3.view (Rect.unit ![0, 0] S64x27.size inb_S64x27_S64x27_0_0).toLoadRect (harg3.unread x1))
    (View.readAt (Elt F) arg4.view (Rect.unit ![0, 0] S64x1.size inb_S64x1_S64x1_0_0).toLoadRect (harg4.unread x2))
    (View.readAt (Elt F) arg5.view (Rect.unit ![0, 0] S8x64.size inb_S8x64_S8x64_0_0).toLoadRect (harg5.unread x3))
    (View.readAt (Elt F) arg6.view (Rect.unit ![0, 0] S8x1.size inb_S8x1_S8x1_0_0).toLoadRect (harg6.unread x4))
    (Scalar.subi (Scalar.muli (BitVec.ofNat 32 (i 1).val) 112#32) 4#32) ch

/-- The loads read the input blocks. -/
theorem loaded_eq (ch : Fin 3) :
    loaded i arg2 harg2 arg3 harg3 arg4 harg4 arg5 harg5 arg6 harg6 x0 x1 x2 x3 x4 ch = block i x0 x1 x2 x3 x4 ch := by
  unfold loaded block slab firstRow
  simp only [View.readAt_eq_ld, harg2.read_unread, harg3.read_unread, harg4.read_unread, harg5.read_unread, harg6.read_unread]
  rw [View.ld_unit_lit (S := S64x27) _ x1 (by decide), View.ld_unit_lit (S := S64x1) _ x2 (by decide),
    View.ld_unit_lit (S := S8x64) _ x3 (by decide), View.ld_unit_lit (S := S8x1) _ x4 (by decide)]

/-- The run's three stores write the three channels. -/
theorem pieces_eq :
    (kernelRun0_A c i arg2 harg2 arg3 harg3 arg4 harg4 arg5 harg5 arg6 harg6 arg7 harg7 x0 x1 x2 x3 x4).1
      = [⟨Rect.unit ![0, 2, 0, 0] ![1, 1, 112, 224] inb_S1x3x112x224_S1x1x112x224_0_2_0_0,
            loaded i arg2 harg2 arg3 harg3 arg4 harg4 arg5 harg5 arg6 harg6 x0 x1 x2 x3 x4 2⟩,
          ⟨Rect.unit ![0, 1, 0, 0] ![1, 1, 112, 224] inb_S1x3x112x224_S1x1x112x224_0_1_0_0,
            loaded i arg2 harg2 arg3 harg3 arg4 harg4 arg5 harg5 arg6 harg6 x0 x1 x2 x3 x4 1⟩,
          ⟨Rect.unit ![0, 0, 0, 0] ![1, 1, 112, 224] inb_S1x3x112x224_S1x1x112x224_0_0_0_0,
            loaded i arg2 harg2 arg3 harg3 arg4 harg4 arg5 harg5 arg6 harg6 x0 x1 x2 x3 x4 0⟩] := by
  sl_kernel_rfl

/-- What a grid point leaves in the output's block, at an index. -/
theorem out_apply (y : S1x3x112x224.Idx) :
    out0_A_5 c i arg2 harg2 arg3 harg3 arg4 harg4 arg5 harg5 arg6 harg6 arg7 harg7 x0 x1 x2 x3 x4 y
      = block i x0 x1 x2 x3 x4 (y 1) (ix4 (0 : Fin 1) (0 : Fin 1) (y 2) (y 3)) := by
  have hc := fun y => cover0_A_5 c i arg2 harg2 arg3 harg3 arg4 harg4 arg5 harg5 arg6 harg6 arg7 harg7 x0 x1 x2 x3 x4 y
  unfold out0_A_5
  rw [View.read_writes_eq_canon _ _ _ hc]
  refine View.canon_apply_of_pieces (fun y => block i x0 x1 x2 x3 x4 (y 1) (ix4 (0 : Fin 1) (0 : Fin 1) (y 2) (y 3))) _ ?_ y (hc y)
  rw [pieces_eq]
  simp only [loaded_eq]
  have key : ∀ (ch : Fin 3) (inb) (x : S1x1x112x224.Idx), block i x0 x1 x2 x3 x4 ch x
      = (fun y : S1x3x112x224.Idx => block i x0 x1 x2 x3 x4 (y 1) (ix4 (0 : Fin 1) (0 : Fin 1) (y 2) (y 3)))
        ((Rect.unit (s := S1x3x112x224) ![0, ch.val, 0, 0] ![1, 1, 112, 224] inb).idx x) := by
    intro ch inb x
    have h0 : (x 0).val < 1 := (x 0).isLt
    have h1 : (x 1).val < 1 := (x 1).isLt
    have e : (Rect.unit (s := S1x3x112x224) ![0, ch.val, 0, 0] ![1, 1, 112, 224] inb).idx x 1 = ch :=
      Fin.ext (by show ch.val + 1 * (x 1).val = ch.val; omega)
    show _ = block i x0 x1 x2 x3 x4 ((Rect.unit (s := S1x3x112x224) ![0, ch.val, 0, 0] ![1, 1, 112, 224] inb).idx x 1) _
    rw [e]
    congr 1
    funext a
    match a with
    | 0 => exact Fin.ext (by show (x 0).val = 0; omega)
    | 1 => exact Fin.ext (by show (x 1).val = 0; omega)
    | 2 => exact Fin.ext (by show (x 2).val = 0 + 1 * (x 2).val; omega)
    | 3 => exact Fin.ext (by show (x 3).val = 0 + 1 * (x 3).val; omega)
  intro pc hpc x
  rcases List.mem_cons.mp hpc with rfl | hpc
  · exact key 2 inb_S1x3x112x224_S1x1x112x224_0_2_0_0 x
  rcases List.mem_cons.mp hpc with rfl | hpc
  · exact key 1 inb_S1x3x112x224_S1x1x112x224_0_1_0_0 x
  rcases List.mem_cons.mp hpc with rfl | hpc
  · exact key 0 inb_S1x3x112x224_S1x1x112x224_0_0_0_0 x
  nomatch hpc

end Run

/-! ## The block's value over the reals -/

section Value

variable (x : Vec Ideal S1x3x240x226 .f32) (w1 : Vec Ideal S64x27 .f32) (b1 : Vec Ideal S64x1 .f32) (w2 : Vec Ideal S8x64 .f32)
  (b2 : Vec Ideal S8x1 .f32)

/-- Number `n` predicted at image pixel `(i, j)`, from the padded image (whose row `i + 5` is image row `i`). -/
def predicted (n : Fin 8) (i j : Fin 224) : EReal :=
  (∑ f : Fin 64, w2 (ix2 n f) * max ((∑ q : Fin 27, w1 (ix2 f q)
    * x (ix4 (0 : Fin 1) (⟨q.val / 9, by omega⟩ : Fin 3) (⟨i.val + 4 + q.val / 3 % 3, by omega⟩ : Fin 240) (⟨j.val + q.val % 3, by omega⟩ : Fin 226)))
      + b1 (ix2 f (0 : Fin 1))) 0) + b2 (ix2 n (0 : Fin 1))

variable (i : grid0.Coords) (t : Fin 2) (ht : (i 1).val = t.val)
include ht

/-- The prediction of a grid point at extended row `k` is the image's at row `k + 112 t - 4`. -/
theorem point_predicted (n : Fin 8) (k : Fin 122) (a j : Fin 224) (hk : k.val + 112 * t.val = a.val + 4) :
    k0_pay30 (head (slab i x) w1 b1 w2) (k0_pay29 b2) (ix3 n k j) = predicted x w1 b1 w2 b2 n a j := by
  rw [block_apply]
  unfold predicted
  refine congrArg (· + b2 (ix2 n (0 : Fin 1))) (Finset.sum_congr rfl fun f _ => ?_)
  refine congrArg (fun s => w2 (ix2 n f) * max (s + b1 (ix2 f (0 : Fin 1))) 0) (Finset.sum_congr rfl fun q _ => ?_)
  refine congrArg (w1 (ix2 f q) * ·) ?_
  rw [slab_apply i x t ht]
  congr 2
  · exact Fin.ext (by show 112 * t.val + (q.val / 3 % 3 + k.val) = a.val + 4 + q.val / 3 % 3; omega)
  · exact Fin.ext (by show q.val % 3 + j.val = j.val + q.val % 3; omega)

/-- A channel of the block, at an index: the image's value there. -/
theorem block_eq (ch : Fin 3) (r : Fin 112) (w : Fin 224) :
    block i x w1 b1 w2 b2 ch (ix4 (0 : Fin 1) (0 : Fin 1) r w)
      = image (predicted x w1 b1 w2 b2) ⟨ch.val, by omega⟩ ⟨112 * t.val + r.val, by omega⟩ w := by
  have e : block i x w1 b1 w2 b2 ch (ix4 (0 : Fin 1) (0 : Fin 1) r w)
      = channel (maps (head (slab i x) w1 b1 w2) (k0_pay29 b2))
          (colour (firstRow t.val) ch (k0_pay30 (head (slab i x) w1 b1 w2) (k0_pay29 b2))) (ix2 r w) := by
    unfold block result
    rw [ht]
    pointwise [k0_pay1]
  rw [e]
  refine channel_eq (t := t) ?_ ?_ r w
  · intro k c a j hk hc
    have h := maps_hold (head (slab i x) w1 b1 w2) (k0_pay29 b2) k c j hc
    have e2 : at8 (head (slab i x) w1 b1 w2) (k0_pay29 b2) k j = fun n => predicted x w1 b1 w2 b2 n a j :=
      funext fun n => point_predicted x w1 b1 w2 b2 i t ht n k a j hk
    rwa [e2] at h
  · intro k c
    rw [colour_apply]
    by_cases h : (4 ≤ k.val + 112 * t.val ∧ k.val + 112 * t.val < 228) ∧ (4 ≤ c.val ∧ c.val < 228)
    · rw [dif_pos h, dif_pos h]
      exact point_predicted x w1 b1 w2 b2 i t ht _ k ⟨k.val + 112 * t.val - 4, by omega⟩ _ (by show _ = k.val + 112 * t.val - 4 + 4; omega)
    · rw [dif_neg h, dif_neg h]

end Value

end Cert.KernelIdeal.Block

end
-- ==== Proof.Net.lean ====
/-
  The prediction, as mathematics.

  A 3 × 3 convolution of the image with a border of zeros, 64 features per pixel, each rectified, then a 64 → 8 linear
  map: eight numbers per pixel. The sums run over the extended reals.
-/
module

public import proofs.«01_k».proof.Proof.Spread

@[expose] public section

noncomputable section

namespace Cert.Splat

/-- The arguments, as functions of plain indices. -/
structure Inputs where
  /-- the images: image, channel, row, column -/
  inp : Fin 2 → Fin 3 → Fin 224 → Fin 224 → EReal
  /-- the convolution's weights: feature, channel, row, column -/
  w1 : Fin 64 → Fin 3 → Fin 3 → Fin 3 → EReal
  /-- the convolution's bias -/
  b1 : Fin 64 → EReal
  /-- the head's weights: number, feature -/
  w2 : Fin 8 → Fin 64 → EReal
  /-- the head's bias -/
  b2 : Fin 8 → EReal

namespace Inputs

variable (A : Inputs)

/-- The image with a border of zeros one pixel wide, at row `r` and column `s` counted from the border. -/
def cell (b : Fin 2) (ci : Fin 3) (r s : ℕ) : EReal :=
  if h : (1 ≤ r ∧ r < 225) ∧ (1 ≤ s ∧ s < 225) then A.inp b ci ⟨r - 1, by omega⟩ ⟨s - 1, by omega⟩ else 0

/-- Feature `f` of image `b` at pixel `(i, j)`, rectified. -/
def feature (b : Fin 2) (i j : Fin 224) (f : Fin 64) : EReal :=
  max ((∑ ci : Fin 3, ∑ ky : Fin 3, ∑ kx : Fin 3, A.w1 f ci ky kx * A.cell b ci (i.val + ky.val) (j.val + kx.val)) + A.b1 f) 0

/-- Number `n` predicted for image `b` at pixel `(i, j)`. -/
def net (b : Fin 2) (n : Fin 8) (i j : Fin 224) : EReal :=
  (∑ f : Fin 64, A.w2 n f * A.feature b i j f) + A.b2 n

end Inputs

/-- A sum over 27 places is the sum over three digits to the base three. -/
theorem sum_digits (g : Fin 27 → EReal) :
    ∑ q : Fin 27, g q = ∑ a : Fin 3, ∑ b : Fin 3, ∑ c : Fin 3, g ⟨9 * a.val + 3 * b.val + c.val, by omega⟩ := by
  simp only [Fin.sum_univ_succ, Fin.sum_univ_zero, add_zero, add_assoc]
  rfl

end Cert.Splat

end
-- ==== Proof.Array.lean ====
/- What the kernel's result array holds: at every index the image made from the predictions on the arguments. -/
module

public import proofs.«01_k».proof.Proof.BlockRun
public import proofs.«01_k».proof.Proof.Net
public import Idealize.ShloMosaic.Lib.VecWindow
public import Idealize.ShloMosaic.Lib.Claim

@[expose] public section

set_option maxRecDepth 16384

noncomputable section

namespace Cert.KernelIdeal.Block

open Cert.KernelIdeal Cert.KernelIdeal.Gen
open Idealize.ShloMosaic Idealize.ShloMosaic.TcCoe Cert.Splat

/-- The padded image: five rows of zeros above, eleven below, a column of zeros on either side. -/
def padImage (x : FVec Ideal S2x3x224x224 .f32) : FVec Ideal S2x3x240x226 .f32 :=
  pad S2x3x240x226 ![0, 0, 5, 1] ![0, 0, 11, 1] ![0, 0, 0, 0] x (sitofp .f32 (constantI S_ 32 0#32))
    pads_S2x3x224x224_S2x3x240x226_000_000_5110_110 h_S_

variable (m : (ℓ : Loc nD τ sig) → Buf (Elt Ideal) ℓ) (c : Dev nD)

/-- The kernel's first weights, as it receives them: 27 taps in one row. -/
theorem V_v0 : (V m c main_v0 : FVec Ideal S64x27 .f32) = shapeCast S64x27 (m ((c : Thread nD τ).loc main_arg1) : FVec Ideal S64x3x3x3 .f32) shapeCasts_S64x3x3x3_S64x27 := by
  simp only [V, hostOps0, hostOps0_1, List.flatten_cons, List.flatten_nil, List.append_nil, List.cons_append, List.nil_append]
  after_results
  rfl

/-- The head's weights, as the kernel receives them. -/
theorem V_v1 : (V m c main_v1 : FVec Ideal S8x64 .f32) = shapeCast S8x64 (m ((c : Thread nD τ).loc main_arg3) : FVec Ideal S8x64x1x1 .f32) shapeCasts_S8x64x1x1_S8x64 := by
  simp only [V, hostOps0, hostOps0_1, List.flatten_cons, List.flatten_nil, List.append_nil, List.cons_append, List.nil_append]
  after_results
  rfl

/-- The first bias, as the kernel receives it: a column. -/
theorem V_v2 : (V m c main_v2 : FVec Ideal S64x1 .f32) = shapeCast S64x1 (m ((c : Thread nD τ).loc main_arg2) : FVec Ideal S64 .f32) shapeCasts_S64_S64x1 := by
  simp only [V, hostOps0, hostOps0_1, List.flatten_cons, List.flatten_nil, List.append_nil, List.cons_append, List.nil_append]
  after_results
  rfl

/-- The head's bias, as the kernel receives it: a column. -/
theorem V_v3 : (V m c main_v3 : FVec Ideal S8x1 .f32) = shapeCast S8x1 (m ((c : Thread nD τ).loc main_arg4) : FVec Ideal S8 .f32) shapeCasts_S8_S8x1 := by
  simp only [V, hostOps0, hostOps0_1, List.flatten_cons, List.flatten_nil, List.append_nil, List.cons_append, List.nil_append]
  after_results
  rfl

/-- The image, as the kernel receives it: padded. -/
theorem V_v4 : (V m c main_v4 : FVec Ideal S2x3x240x226 .f32) = padImage (m ((c : Thread nD τ).loc main_arg0)) := by
  simp only [V, hostOps0, hostOps0_1, List.flatten_cons, List.flatten_nil, List.append_nil, List.cons_append, List.nil_append]
  after_results
  rfl

/-- The padded image at an index: the image with its border, four rows further down. -/
theorem padImage_apply (A : Inputs) (x : FVec Ideal S2x3x224x224 .f32) (hx : ∀ b ci i j, x (ix4 b ci i j) = A.inp b ci i j)
    (b : Fin 2) (ci : Fin 3) (r : Fin 240) (s : Fin 226) (k : ℕ) (hk : r.val = k + 4) :
    padImage x (ix4 b ci r s) = A.cell b ci k s.val := by
  unfold Inputs.cell
  by_cases h : (1 ≤ k ∧ k < 225) ∧ (1 ≤ s.val ∧ s.val < 225)
  · rw [dif_pos h, ← hx]
    pointwise [padImage]
    rw [dif_pos (by omega)]
    congr 2
    exact Fin.ext (by show r.val - 5 = k - 1; omega)
  · rw [dif_neg h]
    pointwise [padImage]
    rw [dif_neg (by omega)]
    exact zero_float

/-- The grid point of image `b` and half `s`. -/
def point (b s : Fin 2) : Fin cfg0.N := ⟨2 * b.val + s.val, by have : cfg0.N = 4 := by decide +kernel
                                                               omega⟩

/-- What a grid point does: it writes its block back, and where its windows' blocks lie. -/
theorem point_facts : ∀ b s : Fin 2, (cfg0.win 5).flush (point b s) = true ∧ ((grid0.coords (point b s)) 1).val = s.val
    ∧ (∀ a, win0_0.index (point b s) a = ![b.val, 0, 0, 0] a) ∧ (∀ a, win0_5.index (point b s) a = ![b.val, 0, s.val, 0] a)
    ∧ (∀ a, win0_1.index (point b s) a = 0) ∧ (∀ a, win0_2.index (point b s) a = 0) ∧ (∀ a, win0_3.index (point b s) a = 0)
    ∧ (∀ a, win0_4.index (point b s) a = 0) := by
  decide +kernel

/-- A grid point sees its image's padded whole. -/
theorem iblk0 (b s : Fin 2) (ci : Fin 3) (r : Fin 240) (x : Fin 226) :
    iblk m c 0 (point b s) (ix4 (0 : Fin 1) ci r x) = padImage (m ((c : Thread nD τ).loc main_arg0)) (ix4 b ci r x) := by
  obtain ⟨_, _, h, _⟩ := point_facts b s
  rw [← V_v4]
  show V m c main_v4 (((cfg0.win 0).blk (point b s)).view.emb (ix4 (0 : Fin 1) ci r x)) = _
  congr 1
  funext a; apply Fin.ext
  match a with
  | 0 => show win0_0.index (point b s) 0 * 1 + 1 * 0 = b.val; rw [h 0]; show b.val * 1 + 1 * 0 = b.val; omega
  | 1 => show win0_0.index (point b s) 1 * 3 + 1 * ci.val = ci.val; rw [h 1]; show 0 * 3 + 1 * ci.val = _; omega
  | 2 => show win0_0.index (point b s) 2 * 240 + 1 * r.val = r.val; rw [h 2]; show 0 * 240 + 1 * r.val = _; omega
  | 3 => show win0_0.index (point b s) 3 * 226 + 1 * x.val = x.val; rw [h 3]; show 0 * 226 + 1 * x.val = _; omega

/-- A grid point sees the first weights whole. -/
theorem iblk1 (b s : Fin 2) (y : S64x27.Idx) : iblk m c 1 (point b s) y = V m c main_v0 y := by
  obtain ⟨_, _, _, _, h, _⟩ := point_facts b s
  show V m c main_v0 (((cfg0.win 1).blk (point b s)).view.emb y) = _
  congr 1
  funext a; apply Fin.ext
  match a with
  | 0 => show win0_1.index (point b s) 0 * 64 + 1 * (y 0).val = (y 0).val; rw [h 0]; omega
  | 1 => show win0_1.index (point b s) 1 * 27 + 1 * (y 1).val = (y 1).val; rw [h 1]; omega

/-- A grid point sees the first bias whole. -/
theorem iblk2 (b s : Fin 2) (y : S64x1.Idx) : iblk m c 2 (point b s) y = V m c main_v2 y := by
  obtain ⟨_, _, _, _, _, h, _⟩ := point_facts b s
  show V m c main_v2 (((cfg0.win 2).blk (point b s)).view.emb y) = _
  congr 1
  funext a; apply Fin.ext
  match a with
  | 0 => show win0_2.index (point b s) 0 * 64 + 1 * (y 0).val = (y 0).val; rw [h 0]; omega
  | 1 => show win0_2.index (point b s) 1 * 1 + 1 * (y 1).val = (y 1).val; rw [h 1]; omega

/-- A grid point sees the head's weights whole. -/
theorem iblk3 (b s : Fin 2) (y : S8x64.Idx) : iblk m c 3 (point b s) y = V m c main_v1 y := by
  obtain ⟨_, _, _, _, _, _, h, _⟩ := point_facts b s
  show V m c main_v1 (((cfg0.win 3).blk (point b s)).view.emb y) = _
  congr 1
  funext a; apply Fin.ext
  match a with
  | 0 => show win0_3.index (point b s) 0 * 8 + 1 * (y 0).val = (y 0).val; rw [h 0]; omega
  | 1 => show win0_3.index (point b s) 1 * 64 + 1 * (y 1).val = (y 1).val; rw [h 1]; omega

/-- A grid point sees the head's bias whole. -/
theorem iblk4 (b s : Fin 2) (y : S8x1.Idx) : iblk m c 4 (point b s) y = V m c main_v3 y := by
  obtain ⟨_, _, _, _, _, _, _, h⟩ := point_facts b s
  show V m c main_v3 (((cfg0.win 4).blk (point b s)).view.emb y) = _
  congr 1
  funext a; apply Fin.ext
  match a with
  | 0 => show win0_4.index (point b s) 0 * 8 + 1 * (y 0).val = (y 0).val; rw [h 0]; omega
  | 1 => show win0_4.index (point b s) 1 * 1 + 1 * (y 1).val = (y 1).val; rw [h 1]; omega

/-- The launch's arguments as functions of plain indices. -/
def inputs : Inputs where
  inp b ci i j := (m ((c : Thread nD τ).loc main_arg0) : FVec Ideal S2x3x224x224 .f32) (ix4 b ci i j)
  w1 f ci ky kx := (m ((c : Thread nD τ).loc main_arg1) : FVec Ideal S64x3x3x3 .f32) (ix4 f ci ky kx)
  b1 f := (m ((c : Thread nD τ).loc main_arg2) : FVec Ideal S64 .f32) (ix1 f)
  w2 n f := (m ((c : Thread nD τ).loc main_arg3) : FVec Ideal S8x64x1x1 .f32) (ix4 n f (0 : Fin 1) (0 : Fin 1))
  b2 n := (m ((c : Thread nD τ).loc main_arg4) : FVec Ideal S8 .f32) (ix1 n)

/-- What a grid point predicts is the net on the arguments. -/
theorem predicted_eq (b s : Fin 2) (n : Fin 8) (i j : Fin 224) :
    predicted (iblk m c 0 (point b s)) (iblk m c 1 (point b s)) (iblk m c 2 (point b s)) (iblk m c 3 (point b s)) (iblk m c 4 (point b s)) n i j
      = (inputs m c).net b n i j := by
  have hw1 : ∀ f a ky kx, iblk m c 1 (point b s) (ix2 f (⟨9 * a.val + 3 * ky.val + kx.val, by omega⟩ : Fin 27)) = (inputs m c).w1 f a ky kx := by
    intro f a ky kx
    rw [iblk1, V_v0]
    pointwise
    rfl
  have hb1 : ∀ f : Fin 64, iblk m c 2 (point b s) (ix2 f (0 : Fin 1)) = (inputs m c).b1 f := by
    intro f
    rw [iblk2, V_v2]
    pointwise
    rfl
  have hw2 : ∀ n f, iblk m c 3 (point b s) (ix2 n f) = (inputs m c).w2 n f := by
    intro n f
    rw [iblk3, V_v1]
    pointwise
    rfl
  have hb2 : ∀ n : Fin 8, iblk m c 4 (point b s) (ix2 n (0 : Fin 1)) = (inputs m c).b2 n := by
    intro n
    rw [iblk4, V_v3]
    pointwise
    rfl
  unfold predicted Inputs.net Inputs.feature
  refine congrArg₂ (· + ·) (Finset.sum_congr rfl fun f _ => ?_) (hb2 n)
  refine congrArg₂ (· * ·) (hw2 n f) (congrArg (max · 0) (congrArg₂ (· + ·) ?_ (hb1 f)))
  rw [sum_digits]
  refine Finset.sum_congr rfl fun a _ => Finset.sum_congr rfl fun ky _ => Finset.sum_congr rfl fun kx _ => ?_
  refine congrArg₂ (· * ·) (hw1 f a ky kx) ?_
  rw [iblk0]
  rw [padImage_apply (inputs m c) _ (fun _ _ _ _ => rfl) b _ _ _ (i.val + ky.val)
    (by show i.val + 4 + (9 * a.val + 3 * ky.val + kx.val) / 3 % 3 = i.val + ky.val + 4; omega)]
  congr 1
  · exact Fin.ext (by show (9 * a.val + 3 * ky.val + kx.val) / 9 = a.val; omega)
  · show j.val + (9 * a.val + 3 * ky.val + kx.val) % 3 = j.val + kx.val; omega

/-- The kernel's result at an index: the image made from the net's predictions on the arguments. -/
theorem array_apply (b : Fin 2) (ch : Fin 3) (h w : Fin 224) :
    (dats m 0 c).arrAt 5 cfg0.N (ix4 b ch h w) = image ((inputs m c).net b) ⟨ch.val, by omega⟩ h w := by
  let s : Fin 2 := ⟨h.val / 112, by omega⟩
  let r : Fin 112 := ⟨h.val % 112, by omega⟩
  obtain ⟨hf, hs, _, h5, _⟩ := point_facts b s
  have e := congrFun (Cert.KernelIdeal.Value.blocks5 m c (point b s) hf) (ix4 (0 : Fin 1) ch r w)
  rw [Cert.KernelIdeal.Value.flushed5_A] at e
  have e' : (dats m 0 c).arrAt 5 cfg0.N (((cfg0.win 5).blk (point b s)).view.emb (ix4 (0 : Fin 1) ch r w))
      = out0_A_5 c (grid0.coords (point b s)) (ms0_0 _) (hs0_0 _) (ms0_1 _) (hs0_1 _) (ms0_2 _) (hs0_2 _) (ms0_3 _) (hs0_3 _) (ms0_4 _) (hs0_4 _)
          (ms0_5 _) (hs0_5 _) (iblk m c 0 (point b s)) (iblk m c 1 (point b s)) (iblk m c 2 (point b s)) (iblk m c 3 (point b s)) (iblk m c 4 (point b s))
          (ix4 (0 : Fin 1) ch r w) := e
  have hemb : ((cfg0.win 5).blk (point b s)).view.emb (ix4 (0 : Fin 1) ch r w) = ix4 b ch h w := by
    funext a; apply Fin.ext
    match a with
    | 0 => show win0_5.index (point b s) 0 * 1 + 1 * 0 = b.val; rw [h5 0]; show b.val * 1 + 1 * 0 = b.val; omega
    | 1 => show win0_5.index (point b s) 1 * 3 + 1 * ch.val = ch.val; rw [h5 1]; show 0 * 3 + 1 * ch.val = _; omega
    | 2 => show win0_5.index (point b s) 2 * 112 + 1 * (h.val % 112) = h.val; rw [h5 2]; show h.val / 112 * 112 + 1 * (h.val % 112) = _; omega
    | 3 => show win0_5.index (point b s) 3 * 224 + 1 * w.val = w.val; rw [h5 3]; show 0 * 224 + 1 * w.val = _; omega
  rw [hemb, out_apply] at e'
  rw [e']
  refine (block_eq _ _ _ _ _ (grid0.coords (point b s)) s hs ch r w).trans ?_
  have hp : predicted (iblk m c 0 (point b s)) (iblk m c 1 (point b s)) (iblk m c 2 (point b s)) (iblk m c 3 (point b s)) (iblk m c 4 (point b s))
      = (inputs m c).net b := funext fun n => funext fun i => funext fun j => predicted_eq m c b s n i j
  rw [hp]
  congr 1
  exact Fin.ext (by show 112 * (h.val / 112) + h.val % 112 = h.val; omega)

end Cert.KernelIdeal.Block

end
-- ==== Proof.RefNet.lean ====
/- What the reference predicts: its nine shifted products and its head are the net on the arguments. -/
module

public import proofs.«01_k».proof.Proof.Net
public import proofs.«01_k».proof.Proof.Gen.ReferenceIdeal.Run
public import Idealize.ShloMosaic.Lib.Pointwise

@[expose] public section

set_option maxRecDepth 16384

noncomputable section

namespace Cert.ReferenceIdeal.Raster

open Cert.ReferenceIdeal Cert.ReferenceIdeal.Gen Cert.ReferenceIdeal.Value
open Idealize.ShloMosaic Idealize.ShloMosaic.TcCoe Cert.Splat

variable (V0 : Valuation τ sig (Elt Ideal))

/-- The reference's arguments as functions of plain indices. -/
def inputs : Inputs where
  inp b ci i j := (V0 (Proc.devRef .tc main_arg0) : FVec Ideal S2x3x224x224 .f32) (ix4 b ci i j)
  w1 f ci ky kx := (V0 (Proc.devRef .tc main_arg1) : FVec Ideal S64x3x3x3 .f32) (ix4 f ci ky kx)
  b1 f := (V0 (Proc.devRef .tc main_arg2) : FVec Ideal S64 .f32) (ix1 f)
  w2 n f := (V0 (Proc.devRef .tc main_arg3) : FVec Ideal S8x64x1x1 .f32) (ix4 n f (0 : Fin 1) (0 : Fin 1))
  b2 n := (V0 (Proc.devRef .tc main_arg4) : FVec Ideal S8 .f32) (ix1 n)

/-- The image with a border of zeros one pixel wide. -/
def bordered (x : FVec Ideal S2x3x224x224 .f32) : FVec Ideal S2x3x226x226 .f32 :=
  pad S2x3x226x226 ![0, 0, 1, 1] ![0, 0, 1, 1] ![0, 0, 0, 0] x (sitofp .f32 (constantI S_ 32 0#32)) pads_S2x3x224x224_S2x3x226x226_000_000_110_110 h_S_

/-- The bordered image at an index. -/
theorem bordered_apply (A : Inputs) (x : FVec Ideal S2x3x224x224 .f32) (hx : ∀ b ci i j, x (ix4 b ci i j) = A.inp b ci i j)
    (b : Fin 2) (ci : Fin 3) (r s : Fin 226) :
    bordered x (ix4 b ci r s) = A.cell b ci r.val s.val := by
  unfold Inputs.cell
  by_cases h : (1 ≤ r.val ∧ r.val < 225) ∧ (1 ≤ s.val ∧ s.val < 225)
  · rw [dif_pos h, ← hx]
    pointwise [bordered]
    rw [dif_pos (by omega)]
  · rw [dif_neg h]
    pointwise [bordered]
    rw [dif_neg (by omega)]
    have z : (Scalar.sitofp (F := Ideal) .f32 0#32 : EReal) = 0 := by simp
    exact z

/-- One of the nine shifted products. -/
def tap (ky kx : Nat) (hx : S2x3x226x226.Slices ![0, 0, ky, kx] S2x3x224x224) (hw : S64x3x3x3.Slices ![0, 0, ky, kx] S64x3x1x1)
    (x : FVec Ideal S2x3x226x226 .f32) (w : FVec Ideal S64x3x3x3 .f32) : FVec Ideal S2x64x224x224 .f32 :=
  transpose S2x64x224x224 [0, 3, 1, 2] (Host.dotGeneral dot_S2x3x224x224_S64x3_S2x224x224x64_1_1_023_0_n_n none
    (extractStridedSlice S2x3x224x224 ![0, 0, ky, kx] x hx)
    (shapeCast _ (extractStridedSlice S64x3x1x1 ![0, 0, ky, kx] w hw) shapeCasts_S64x3x1x1_S64x3)) transposes_S2x224x224x64_S2x64x224x224_0_3_1_2

/-- One of the nine shifted products at an index. -/
theorem tap_apply (ky kx : Fin 3) (hx : S2x3x226x226.Slices ![0, 0, ky.val, kx.val] S2x3x224x224) (hw : S64x3x3x3.Slices ![0, 0, ky.val, kx.val] S64x3x1x1)
    (x : FVec Ideal S2x3x226x226 .f32) (w : FVec Ideal S64x3x3x3 .f32) (b : Fin 2) (f : Fin 64) (i j : Fin 224) :
    tap ky.val kx.val hx hw x w (ix4 b f i j)
      = ∑ ci : Fin 3, x (ix4 b ci (⟨ky.val + i.val, by omega⟩ : Fin 226) (⟨kx.val + j.val, by omega⟩ : Fin 226)) * w (ix4 f ci ky kx) := by
  pointwise [tap]

/-- A bias per channel, spread over the images and pixels. -/
def bias64 (x : FVec Ideal S64 .f32) : FVec Ideal S2x64x224x224 .f32 :=
  broadcastInDim S2x64x224x224 ![0, 1, 2, 3] bcast_S1x64x1x1_S2x64x224x224_0_1_2_3 (broadcastInDim S1x64x1x1 ![1] bcast_S64_S1x64x1x1_1 x)

/-- The sum of the nine shifted products and the bias. -/
def convolved (x : FVec Ideal S2x3x226x226 .f32) (w : FVec Ideal S64x3x3x3 .f32) (b : FVec Ideal S64 .f32) : FVec Ideal S2x64x224x224 .f32 :=
  addf (addf (addf (addf (addf (addf (addf (addf (addf (addf (broadcastInDim S2x64x224x224 ![] bcast_S_S2x64x224x224 (constant S_ .f32 0x00000000#32))
    (tap 0 0 slices_S2x3x226x226_S2x3x224x224_0_0_0_0 slices_S64x3x3x3_S64x3x1x1_0_0_0_0 x w))
    (tap 0 1 slices_S2x3x226x226_S2x3x224x224_0_0_0_1 slices_S64x3x3x3_S64x3x1x1_0_0_0_1 x w))
    (tap 0 2 slices_S2x3x226x226_S2x3x224x224_0_0_0_2 slices_S64x3x3x3_S64x3x1x1_0_0_0_2 x w))
    (tap 1 0 slices_S2x3x226x226_S2x3x224x224_0_0_1_0 slices_S64x3x3x3_S64x3x1x1_0_0_1_0 x w))
    (tap 1 1 slices_S2x3x226x226_S2x3x224x224_0_0_1_1 slices_S64x3x3x3_S64x3x1x1_0_0_1_1 x w))
    (tap 1 2 slices_S2x3x226x226_S2x3x224x224_0_0_1_2 slices_S64x3x3x3_S64x3x1x1_0_0_1_2 x w))
    (tap 2 0 slices_S2x3x226x226_S2x3x224x224_0_0_2_0 slices_S64x3x3x3_S64x3x1x1_0_0_2_0 x w))
    (tap 2 1 slices_S2x3x226x226_S2x3x224x224_0_0_2_1 slices_S64x3x3x3_S64x3x1x1_0_0_2_1 x w))
    (tap 2 2 slices_S2x3x226x226_S2x3x224x224_0_0_2_2 slices_S64x3x3x3_S64x3x1x1_0_0_2_2 x w)) (bias64 b)

/-- The convolution at an index. -/
theorem convolved_apply (x : FVec Ideal S2x3x226x226 .f32) (w : FVec Ideal S64x3x3x3 .f32) (bb : FVec Ideal S64 .f32)
    (b : Fin 2) (f : Fin 64) (i j : Fin 224) :
    convolved x w bb (ix4 b f i j)
      = (∑ ky : Fin 3, ∑ kx : Fin 3, ∑ ci : Fin 3,
          x (ix4 b ci (⟨ky.val + i.val, by omega⟩ : Fin 226) (⟨kx.val + j.val, by omega⟩ : Fin 226)) * w (ix4 f ci ky kx)) + bb (ix1 f) := by
  have h00 := tap_apply 0 0 slices_S2x3x226x226_S2x3x224x224_0_0_0_0 slices_S64x3x3x3_S64x3x1x1_0_0_0_0 x w b f i j
  have h01 := tap_apply 0 1 slices_S2x3x226x226_S2x3x224x224_0_0_0_1 slices_S64x3x3x3_S64x3x1x1_0_0_0_1 x w b f i j
  have h02 := tap_apply 0 2 slices_S2x3x226x226_S2x3x224x224_0_0_0_2 slices_S64x3x3x3_S64x3x1x1_0_0_0_2 x w b f i j
  have h10 := tap_apply 1 0 slices_S2x3x226x226_S2x3x224x224_0_0_1_0 slices_S64x3x3x3_S64x3x1x1_0_0_1_0 x w b f i j
  have h11 := tap_apply 1 1 slices_S2x3x226x226_S2x3x224x224_0_0_1_1 slices_S64x3x3x3_S64x3x1x1_0_0_1_1 x w b f i j
  have h12 := tap_apply 1 2 slices_S2x3x226x226_S2x3x224x224_0_0_1_2 slices_S64x3x3x3_S64x3x1x1_0_0_1_2 x w b f i j
  have h20 := tap_apply 2 0 slices_S2x3x226x226_S2x3x224x224_0_0_2_0 slices_S64x3x3x3_S64x3x1x1_0_0_2_0 x w b f i j
  have h21 := tap_apply 2 1 slices_S2x3x226x226_S2x3x224x224_0_0_2_1 slices_S64x3x3x3_S64x3x1x1_0_0_2_1 x w b f i j
  have h22 := tap_apply 2 2 slices_S2x3x226x226_S2x3x224x224_0_0_2_2 slices_S64x3x3x3_S64x3x1x1_0_0_2_2 x w b f i j
  have hb : bias64 bb (ix4 b f i j) = bb (ix1 f) := by pointwise [bias64]
  generalize hg : (fun (ky kx : Fin 3) => ∑ ci : Fin 3,
          x (ix4 b ci (⟨ky.val + i.val, by omega⟩ : Fin 226) (⟨kx.val + j.val, by omega⟩ : Fin 226)) * w (ix4 f ci ky kx)) = g
  have hs : (∑ ky : Fin 3, ∑ kx : Fin 3, g ky kx)
      = 0 + g 0 0 + g 0 1 + g 0 2 + g 1 0 + g 1 1 + g 1 2 + g 2 0 + g 2 1 + g 2 2 := by
    simp only [Fin.sum_univ_succ, Fin.sum_univ_zero, add_zero, zero_add, add_assoc]
    rfl
  have hs' : (∑ ky : Fin 3, ∑ kx : Fin 3, ∑ ci : Fin 3,
          x (ix4 b ci (⟨ky.val + i.val, by omega⟩ : Fin 226) (⟨kx.val + j.val, by omega⟩ : Fin 226)) * w (ix4 f ci ky kx))
      = ∑ ky : Fin 3, ∑ kx : Fin 3, g ky kx := by rw [← hg]
  rw [hs', hs, ← hb, ← hg]
  have hz : (broadcastInDim S2x64x224x224 ![] bcast_S_S2x64x224x224 (constant (F := Ideal) S_ .f32 0x00000000#32)) (ix4 b f i j) = 0 := by
    pointwise
  rw [← hz]
  dsimp only
  rw [← h00, ← h01, ← h02, ← h10, ← h11, ← h12, ← h20, ← h21, ← h22]
  rfl

/-- A bias per number, spread over the images and pixels. -/
def bias8 (x : FVec Ideal S8 .f32) : FVec Ideal S2x8x224x224 .f32 :=
  broadcastInDim S2x8x224x224 ![0, 1, 2, 3] bcast_S1x8x1x1_S2x8x224x224_0_1_2_3 (broadcastInDim S1x8x1x1 ![1] bcast_S8_S1x8x1x1_1 x)

/-- The head: the rectified features against the head's weights, the bias added. -/
def headed (y : FVec Ideal S2x64x224x224 .f32) (w : FVec Ideal S8x64x1x1 .f32) (b : FVec Ideal S8 .f32) : FVec Ideal S2x8x224x224 .f32 :=
  addf (transpose S2x8x224x224 [0, 3, 1, 2] (Host.dotGeneral dot_S2x64x224x224_S8x64_S2x224x224x8_1_1_023_0_n_n none
    (maximumf y (broadcastInDim S2x64x224x224 ![] bcast_S_S2x64x224x224 (constant S_ .f32 0x00000000#32)))
    (shapeCast _ w shapeCasts_S8x64x1x1_S8x64)) transposes_S2x224x224x8_S2x8x224x224_0_3_1_2) (bias8 b)

/-- The head at an index. -/
theorem headed_apply (y : FVec Ideal S2x64x224x224 .f32) (w : FVec Ideal S8x64x1x1 .f32) (bb : FVec Ideal S8 .f32)
    (b : Fin 2) (n : Fin 8) (i j : Fin 224) :
    headed y w bb (ix4 b n i j)
      = (∑ f : Fin 64, max (y (ix4 b f i j)) 0 * w (ix4 n f (0 : Fin 1) (0 : Fin 1))) + bb (ix1 n) := by
  pointwise [headed, bias8]

/-- The predictions with the pixels in one row. -/
def flat (p : FVec Ideal S2x8x224x224 .f32) : FVec Ideal S2x50176x8 .f32 :=
  transpose S2x50176x8 [0, 2, 1] (shapeCast _ p shapeCasts_S2x8x224x224_S2x8x50176) transposes_S2x8x50176_S2x50176x8_0_2_1

/-- Pixel `(i, j)` in the row of pixels. -/
def pix (i j : Fin 224) : Fin 50176 := ⟨224 * i.val + j.val, by omega⟩

/-- The predictions in one row, at a pixel. -/
theorem flat_apply (p : FVec Ideal S2x8x224x224 .f32) (b : Fin 2) (n : Fin 8) (i j : Fin 224) :
    flat p (ix3 b (pix i j) n) = p (ix4 b n i j) := by
  pointwise [flat, pix]

/-- What the reference predicts is the net. -/
theorem pred_apply (b : Fin 2) (n : Fin 8) (i j : Fin 224) :
    (res_main_v67 V0 : FVec Ideal S2x50176x8 .f32) (ix3 b (pix i j) n) = (inputs V0).net b n i j := by
  have e : (res_main_v67 V0 : FVec Ideal S2x50176x8 .f32) = flat (headed (convolved (bordered (V0 (Proc.devRef .tc main_arg0)))
      (V0 (Proc.devRef .tc main_arg1)) (V0 (Proc.devRef .tc main_arg2))) (V0 (Proc.devRef .tc main_arg3)) (V0 (Proc.devRef .tc main_arg4))) := rfl
  rw [e, flat_apply, headed_apply]
  unfold Inputs.net Inputs.feature
  refine congrArg₂ (· + ·) (Finset.sum_congr rfl fun f _ => ?_) rfl
  rw [mul_comm]
  refine congrArg₂ (· * ·) rfl (congrArg (max · 0) ?_)
  rw [convolved_apply]
  refine congrArg₂ (· + ·) ?_ rfl
  rw [Finset.sum_congr rfl fun ky _ => Finset.sum_comm, Finset.sum_comm]
  refine Finset.sum_congr rfl fun ci _ => Finset.sum_congr rfl fun ky _ => Finset.sum_congr rfl fun kx _ => ?_
  rw [mul_comm, bordered_apply (inputs V0) _ (fun _ _ _ _ => rfl)]
  refine congrArg₂ (· * ·) rfl ?_
  rw [Nat.add_comm i.val, Nat.add_comm j.val]

end Cert.ReferenceIdeal.Raster

end
-- ==== Proof.RefPixel.lean ====
/- What the reference computes for every source pixel before it splats: angle, scales and centre, of the eight predicted numbers. -/
module

public import proofs.«01_k».proof.Proof.RefNet
public import proofs.«01_k».proof.Proof.Maps

@[expose] public section

set_option maxRecDepth 16384

noncomputable section

namespace Cert.ReferenceIdeal.Raster

open Cert.ReferenceIdeal Cert.ReferenceIdeal.Gen Cert.ReferenceIdeal.Value
open Idealize.ShloMosaic Idealize.ShloMosaic.TcCoe Cert.Splat
open Cert.KernelIdeal.Block (one_eq half_eq neg_half_eq millionth_eq tiny_eq n112_eq)

/-! ## Words -/

/-- The word of two. -/
theorem two_eq : Ideal.ofBits .f32 0x40000000#32 = ((2 : ℝ) : EReal) := by
  simp [Ideal.ofBits, Ideal.ieee, -EReal.coe_mul]; norm_num

/-- The word of 224. -/
theorem n224_eq : Ideal.ofBits .f32 0x43600000#32 = ((224 : ℝ) : EReal) := by
  simp [Ideal.ofBits, Ideal.ieee, -EReal.coe_mul]; norm_num

/-- The word of the float nearest `π`. -/
theorem pi_eq : Ideal.ofBits .f32 0x40490FDB#32 = ((13176795 / 4194304 : ℝ) : EReal) := by
  simp [Ideal.ofBits, Ideal.ieee, -EReal.coe_mul]; norm_num

/-! ## The four arrays -/

/-- The angles. -/
def angles (p : FVec Ideal S2x50176x8 .f32) : FVec Ideal S2x50176 .f32 :=
  mulf (mulf (Host.divf (broadcastInDim S2x50176 ![] bcast_S_S2x50176 (constant S_ .f32 0x3F800000#32))
    (addf (broadcastInDim S2x50176 ![] bcast_S_S2x50176 (constant S_ .f32 0x3F800000#32))
      (Host.exp (Host.negf (shapeCast _ (extractStridedSlice S2x50176x1 ![0, 0, 3] p slices_S2x50176x8_S2x50176x1_0_0_3) shapeCasts_S2x50176x1_S2x50176)))))
    (broadcastInDim S2x50176 ![] bcast_S_S2x50176 (constant S_ .f32 0x40000000#32)))
    (broadcastInDim S2x50176 ![] bcast_S_S2x50176 (constant S_ .f32 0x40490FDB#32))

/-- The scales, two a pixel, as shares of half the image's side. -/
def scales (p : FVec Ideal S2x50176x8 .f32) : FVec Ideal S2x50176x2 .f32 :=
  addf (mulf (Host.divf (broadcastInDim S2x50176x2 ![] bcast_S_S2x50176x2 (constant S_ .f32 0x3F800000#32))
    (addf (broadcastInDim S2x50176x2 ![] bcast_S_S2x50176x2 (constant S_ .f32 0x3F800000#32))
      (Host.exp (Host.negf (extractStridedSlice S2x50176x2 ![0, 0, 4] p slices_S2x50176x8_S2x50176x2_0_0_4)))))
    (broadcastInDim S2x50176x2 ![] bcast_S_S2x50176x2 (constant S_ .f32 0x3F000000#32)))
    (broadcastInDim S2x50176x2 ![] bcast_S_S2x50176x2 (constant S_ .f32 0x358637BD#32))

/-- Where the pixels of one axis lie between `-1` and `1`. -/
def axis (a : Fin S224x224.rank) (h : S224.BroadcastsInDim S224x224 (![a] : Fin 1 → Fin S224x224.rank)) : FVec Ideal S224x224x1 .f32 :=
  broadcastInDim S224x224x1 ![0, 1] bcast_S224x224_S224x224x1_0_1
    (subf (mulf (broadcastInDim S224x224 ![] bcast_S_S224x224 (constant S_ .f32 0x40000000#32))
      (Host.divf (broadcastInDim S224x224 ![a] h (sitofp .f32 (iotaInDim S224 32 0)))
        (broadcastInDim S224x224 ![] bcast_S_S224x224 (constant S_ .f32 0x43600000#32))))
      (broadcastInDim S224x224 ![] bcast_S_S224x224 (constant S_ .f32 0x3F800000#32)))

/-- Where the pixels lie between `-1` and `1`, column first. -/
def coords : FVec Ideal S2x50176x2 .f32 :=
  broadcastInDim S2x50176x2 ![0, 1, 2] bcast_S1x50176x2_S2x50176x2_0_1_2 (broadcastInDim S1x50176x2 ![1, 2] bcast_S50176x2_S1x50176x2_1_2
    (shapeCast _ (concatenate S224x224x2 2 [⟨S224x224x1, axis 1 bcast_S224_S224x224_1⟩, ⟨S224x224x1, axis 0 bcast_S224_S224x224_0⟩]
      concatenates_S224x224x1_S224x224x1_S224x224x2_d2) shapeCasts_S224x224x2_S50176x2))

/-- The two offsets predicted for every pixel. -/
def offsets (p : FVec Ideal S2x50176x8 .f32) : FVec Ideal S2x50176x2 .f32 :=
  Host.tanh (extractStridedSlice S2x50176x2 ![0, 0, 6] p slices_S2x50176x8_S2x50176x2_0_0_6)

/-- One coordinate of the centres: the pixel's, moved by the offset, less half a pixel. -/
def moved (k : Nat) (h : S2x50176x2.Slices ![0, 0, k] S2x50176x1) (c t : FVec Ideal S2x50176x2 .f32) : FVec Ideal S2x50176x1 .f32 :=
  broadcastInDim S2x50176x1 ![0, 1] bcast_S2x50176_S2x50176x1_0_1
    (subf (addf (shapeCast _ (extractStridedSlice S2x50176x1 ![0, 0, k] c h) shapeCasts_S2x50176x1_S2x50176)
      (Host.divf (mulf (broadcastInDim S2x50176 ![] bcast_S_S2x50176 (constant S_ .f32 0x40000000#32))
        (shapeCast _ (extractStridedSlice S2x50176x1 ![0, 0, k] t h) shapeCasts_S2x50176x1_S2x50176))
        (broadcastInDim S2x50176 ![] bcast_S_S2x50176 (constant S_ .f32 0x43600000#32))))
      (broadcastInDim S2x50176 ![] bcast_S_S2x50176 (Host.divf (constant S_ .f32 0x3F800000#32) (constant S_ .f32 0x43600000#32))))

/-- The centres between `-1` and `1`, column first. -/
def centres (p : FVec Ideal S2x50176x8 .f32) : FVec Ideal S2x50176x2 .f32 :=
  concatenate S2x50176x2 2 [⟨S2x50176x1, moved 0 slices_S2x50176x2_S2x50176x1_0_0_0 coords (offsets p)⟩,
    ⟨S2x50176x1, moved 1 slices_S2x50176x2_S2x50176x1_0_0_1 coords (offsets p)⟩] concatenates_S2x50176x1_S2x50176x1_S2x50176x2_d2

/-! ## Their values -/

section Values

variable (p : FVec Ideal S2x50176x8 .f32) (b : Fin 2) (i j : Fin 224)

/-- The eight numbers predicted at a pixel. -/
def eight (n : Fin 8) : EReal := p (ix3 b (pix i j) n)

/-- An angle. -/
theorem angles_apply : angles p (ix2 b (pix i j)) = (angle (eight p b i j) : EReal) := by
  have e : angles p (ix2 b (pix i j)) = Ideal.div (Ideal.ofBits .f32 0x3F800000#32) (Ideal.ofBits .f32 0x3F800000#32
      + Ideal.exp (-eight p b i j 3)) * Ideal.ofBits .f32 0x40000000#32 * Ideal.ofBits .f32 0x40490FDB#32 := by
    pointwise [angles, eight]
  rw [e, one_eq, EReal.coe_one, logistic_open, two_eq, pi_eq, ← EReal.coe_mul, ← EReal.coe_mul]
  congr 1
  unfold angle
  ring

/-- The first scale. -/
theorem scales_apply_x : scales p (ix3 b (pix i j) (0 : Fin 2)) = ((Splat.sig (eight p b i j 4) * (1 / 2) + 8796093 / 8796093022208 : ℝ) : EReal) := by
  have e : scales p (ix3 b (pix i j) (0 : Fin 2)) = Ideal.div (Ideal.ofBits .f32 0x3F800000#32) (Ideal.ofBits .f32 0x3F800000#32
      + Ideal.exp (-eight p b i j 4)) * Ideal.ofBits .f32 0x3F000000#32 + Ideal.ofBits .f32 0x358637BD#32 := by
    pointwise [scales, eight]
  rw [e, one_eq, EReal.coe_one, logistic_open, half_eq, millionth_eq, ← EReal.coe_mul, ← EReal.coe_add]

/-- The second scale. -/
theorem scales_apply_y : scales p (ix3 b (pix i j) (1 : Fin 2)) = ((Splat.sig (eight p b i j 5) * (1 / 2) + 8796093 / 8796093022208 : ℝ) : EReal) := by
  have e : scales p (ix3 b (pix i j) (1 : Fin 2)) = Ideal.div (Ideal.ofBits .f32 0x3F800000#32) (Ideal.ofBits .f32 0x3F800000#32
      + Ideal.exp (-eight p b i j 5)) * Ideal.ofBits .f32 0x3F000000#32 + Ideal.ofBits .f32 0x358637BD#32 := by
    pointwise [scales, eight]
  rw [e, one_eq, EReal.coe_one, logistic_open, half_eq, millionth_eq, ← EReal.coe_mul, ← EReal.coe_add]

/-- A small number as a word, and back to a number. -/
theorem small_word (k : Fin 224) : Scalar.sitofp (F := Ideal) .f32 (BitVec.ofNat 32 k.val) = ((k.val : ℝ) : EReal) := by
  have e : (BitVec.ofNat 32 k.val).toInt = (k.val : ℤ) := by
    rw [BitVec.toInt_eq_toNat_of_lt] <;> simp <;> omega
  show (((BitVec.ofNat 32 k.val).toInt : ℝ) : EReal) = _
  rw [e]; simp

/-- The columns' places. -/
theorem coords_apply_x : coords (ix3 b (pix i j) (0 : Fin 2)) = ((2 * (j.val / 224) - 1 : ℝ) : EReal) := by
  have e : coords (ix3 b (pix i j) (0 : Fin 2)) = Ideal.ofBits .f32 0x40000000#32
      * Ideal.div (Scalar.sitofp (F := Ideal) .f32 (BitVec.ofNat 32 j.val)) (Ideal.ofBits .f32 0x43600000#32) - Ideal.ofBits .f32 0x3F800000#32 := by
    pointwise [coords, axis, pix]
    rfl
  rw [e, small_word, two_eq, n224_eq, one_eq, Ideal.div_coe (by norm_num)]
  simp only [← EReal.coe_mul, ← EReal.coe_sub]
  congr 1; ring

/-- The rows' places. -/
theorem coords_apply_y : coords (ix3 b (pix i j) (1 : Fin 2)) = ((2 * (i.val / 224) - 1 : ℝ) : EReal) := by
  have e : coords (ix3 b (pix i j) (1 : Fin 2)) = Ideal.ofBits .f32 0x40000000#32
      * Ideal.div (Scalar.sitofp (F := Ideal) .f32 (BitVec.ofNat 32 i.val)) (Ideal.ofBits .f32 0x43600000#32) - Ideal.ofBits .f32 0x3F800000#32 := by
    pointwise [coords, axis, pix]
    rfl
  rw [e, small_word, two_eq, n224_eq, one_eq, Ideal.div_coe (by norm_num)]
  simp only [← EReal.coe_mul, ← EReal.coe_sub]
  congr 1; ring

/-- One coordinate of the centres, of the pixel's place and the offset. -/
theorem moved_apply (k : Fin 2) (h : S2x50176x2.Slices ![0, 0, k.val] S2x50176x1) (c t : FVec Ideal S2x50176x2 .f32)
    (n : Fin 50176) (x y : ℝ) (hc : c (ix3 b n k) = (x : EReal)) (ht : t (ix3 b n k) = (y : EReal)) :
    moved k.val h c t (ix3 b n (0 : Fin 1)) = ((x + 2 * y / 224 - 1 / 224 : ℝ) : EReal) := by
  have e : moved k.val h c t (ix3 b n (0 : Fin 1)) = c (ix3 b n k) + Ideal.div (Ideal.ofBits .f32 0x40000000#32 * t (ix3 b n k)) (Ideal.ofBits .f32 0x43600000#32)
      - Ideal.div (Ideal.ofBits .f32 0x3F800000#32) (Ideal.ofBits .f32 0x43600000#32) := by
    pointwise [moved]
  rw [e, hc, ht, two_eq, n224_eq, one_eq, Ideal.div_coe (by norm_num), Ideal.div_coe (by norm_num)]
  simp only [← EReal.coe_mul, ← EReal.coe_add, ← EReal.coe_sub]
  congr 1; ring

/-- A centre's column. -/
theorem centres_apply_x : centres p (ix3 b (pix i j) (0 : Fin 2)) = ((2 * (j.val / 224) - 1 + 2 * th (eight p b i j 6) / 224 - 1 / 224 : ℝ) : EReal) := by
  have e : centres p (ix3 b (pix i j) (0 : Fin 2)) = moved 0 slices_S2x50176x2_S2x50176x1_0_0_0 coords (offsets p) (ix3 b (pix i j) (0 : Fin 1)) := by
    pointwise [centres]
  have t : offsets p (ix3 b (pix i j) (0 : Fin 2)) = Ideal.tanh (eight p b i j 6) := by
    pointwise [offsets, eight]
  rw [e]
  exact moved_apply b 0 slices_S2x50176x2_S2x50176x1_0_0_0 coords (offsets p) (pix i j) _ _ (coords_apply_x b i j) (t.trans (tanh_eq _))

/-- A centre's row. -/
theorem centres_apply_y : centres p (ix3 b (pix i j) (1 : Fin 2)) = ((2 * (i.val / 224) - 1 + 2 * th (eight p b i j 7) / 224 - 1 / 224 : ℝ) : EReal) := by
  have e : centres p (ix3 b (pix i j) (1 : Fin 2)) = moved 1 slices_S2x50176x2_S2x50176x1_0_0_1 coords (offsets p) (ix3 b (pix i j) (0 : Fin 1)) := by
    pointwise [centres]
  have t : offsets p (ix3 b (pix i j) (1 : Fin 2)) = Ideal.tanh (eight p b i j 7) := by
    pointwise [offsets, eight]
  rw [e]
  exact moved_apply b 1 slices_S2x50176x2_S2x50176x1_0_0_1 coords (offsets p) (pix i j) _ _ (coords_apply_y b i j) (t.trans (tanh_eq _))

end Values

/-! ## One image -/

/-- The four arrays of one image. -/
structure Params where
  /-- The colours. -/
  rgb : FVec Ideal S50176x3 .f32
  /-- The scales. -/
  scale : FVec Ideal S50176x2 .f32
  /-- The angles. -/
  theta : FVec Ideal S50176 .f32
  /-- The centres. -/
  xyz : FVec Ideal S50176x2 .f32

/-- The arrays of a Params are those that belong to the eight numbers `q` of every pixel. -/
structure Params.Of (P : Params) (q : Fin 224 → Fin 224 → Fin 8 → EReal) : Prop where
  rgb : ∀ i j (ch : Fin 3), P.rgb (ix2 (pix i j) ch) = q i j ⟨ch.val, by omega⟩
  scaleX : ∀ i j, P.scale (ix2 (pix i j) (0 : Fin 2)) = ((Splat.sig (q i j 4) * (1 / 2) + 8796093 / 8796093022208 : ℝ) : EReal)
  scaleY : ∀ i j, P.scale (ix2 (pix i j) (1 : Fin 2)) = ((Splat.sig (q i j 5) * (1 / 2) + 8796093 / 8796093022208 : ℝ) : EReal)
  theta : ∀ i j, P.theta (ix1 (pix i j)) = (angle (q i j) : EReal)
  x : ∀ i j : Fin 224, P.xyz (ix2 (pix i j) (0 : Fin 2)) = ((2 * (j.val / 224) - 1 + 2 * th (q i j 6) / 224 - 1 / 224 : ℝ) : EReal)
  y : ∀ i j : Fin 224, P.xyz (ix2 (pix i j) (1 : Fin 2)) = ((2 * (i.val / 224) - 1 + 2 * th (q i j 7) / 224 - 1 / 224 : ℝ) : EReal)

/-- The three colours of the eight numbers. -/
def colours (p : FVec Ideal S2x50176x8 .f32) : FVec Ideal S2x50176x3 .f32 :=
  extractStridedSlice S2x50176x3 ![0, 0, 0] p slices_S2x50176x8_S2x50176x3_0_0_0

/-- The arrays of one image, cut out of those of both. -/
def params (b : Nat) (h3 : S2x50176x3.Slices ![b, 0, 0] S1x50176x3) (h2 : S2x50176x2.Slices ![b, 0, 0] S1x50176x2)
    (h1 : S2x50176.Slices ![b, 0] S1x50176) (p : FVec Ideal S2x50176x8 .f32) : Params where
  rgb := shapeCast _ (extractStridedSlice S1x50176x3 ![b, 0, 0] (colours p) h3) shapeCasts_S1x50176x3_S50176x3
  scale := shapeCast _ (extractStridedSlice S1x50176x2 ![b, 0, 0] (scales p) h2) shapeCasts_S1x50176x2_S50176x2
  theta := shapeCast _ (extractStridedSlice S1x50176 ![b, 0] (angles p) h1) shapeCasts_S1x50176_S50176
  xyz := shapeCast _ (extractStridedSlice S1x50176x2 ![b, 0, 0] (centres p) h2) shapeCasts_S1x50176x2_S50176x2

/-- Two numbers a pixel, cut out of those of both images. -/
theorem cut2 (b : Fin 2) (h : S2x50176x2.Slices ![b.val, 0, 0] S1x50176x2) (x : FVec Ideal S2x50176x2 .f32) (n : Fin 50176) (k : Fin 2) :
    (shapeCast S50176x2 (extractStridedSlice S1x50176x2 ![b.val, 0, 0] x h) shapeCasts_S1x50176x2_S50176x2) (ix2 n k) = x (ix3 b n k) := by
  pointwise

/-- The cut-out arrays belong to the image's predictions. -/
theorem params_of (b : Fin 2) (h3 : S2x50176x3.Slices ![b.val, 0, 0] S1x50176x3) (h2 : S2x50176x2.Slices ![b.val, 0, 0] S1x50176x2)
    (h1 : S2x50176.Slices ![b.val, 0] S1x50176) (p : FVec Ideal S2x50176x8 .f32) : (params b.val h3 h2 h1 p).Of (eight p b) where
  rgb i j ch := by
    have e : (shapeCast S50176x3 (extractStridedSlice S1x50176x3 ![b.val, 0, 0] (colours p) h3) shapeCasts_S1x50176x3_S50176x3) (ix2 (pix i j) ch)
        = p (ix3 b (pix i j) ⟨ch.val, by omega⟩) := by
      pointwise [colours]
    exact e
  scaleX i j := (cut2 b h2 (scales p) (pix i j) 0).trans (scales_apply_x p b i j)
  scaleY i j := (cut2 b h2 (scales p) (pix i j) 1).trans (scales_apply_y p b i j)
  theta i j := by
    have e : (shapeCast S50176 (extractStridedSlice S1x50176 ![b.val, 0] (angles p) h1) shapeCasts_S1x50176_S50176) (ix1 (pix i j))
        = angles p (ix2 b (pix i j)) := by
      pointwise
    exact e.trans (angles_apply p b i j)
  x i j := (cut2 b h2 (centres p) (pix i j) 0).trans (centres_apply_x p b i j)
  y i j := (cut2 b h2 (centres p) (pix i j) 1).trans (centres_apply_y p b i j)

end Cert.ReferenceIdeal.Raster

end
-- ==== Proof.RefTerms.lean ====
/- How the reference splats one image: its arrays by name, and their values at a source pixel. -/
module

public import proofs.«01_k».proof.Proof.RefPixel

@[expose] public section

set_option maxRecDepth 16384

noncomputable section

namespace Cert.ReferenceIdeal.Raster

open Cert.ReferenceIdeal Cert.ReferenceIdeal.Gen Cert.ReferenceIdeal.Value
open Idealize.ShloMosaic Idealize.ShloMosaic.TcCoe Cert.Splat
open Cert.KernelIdeal.Block (one_eq half_eq neg_half_eq millionth_eq tiny_eq n112_eq)

/-! ## The arrays -/

/-- A float at every source. -/
def fill (w : BitVec 32) : FVec Ideal S50176 .f32 := broadcastInDim S50176 ![] bcast_S_S50176 (constant S_ .f32 w)

/-- A float at every source and target. -/
def fill2 (w : BitVec 32) : FVec Ideal S50176x81 .f32 := broadcastInDim S50176x81 ![] bcast_S_S50176x81 (constant S_ .f32 w)

/-- A whole number at every source and target. -/
def fillI (w : BitVec 32) : IVec S50176x81 32 := broadcastInDim S50176x81 ![] bcast_S_S50176x81 (constantI S_ 32 w)

/-- One of the two numbers of every source. -/
def column (k : Nat) (h : S50176x2.Slices ![0, k] S50176x1) (x : FVec Ideal S50176x2 .f32) : FVec Ideal S50176 .f32 :=
  shapeCast _ (extractStridedSlice S50176x1 ![0, k] x h) shapeCasts_S50176x1_S50176

/-- One coordinate of the centres, in pixels. -/
def place (k : Nat) (h : S50176x2.Slices ![0, k] S50176x1) (x : FVec Ideal S50176x2 .f32) : FVec Ideal S50176 .f32 :=
  mulf (mulf (fill 0x3F000000#32) (addf (column k h x) (fill 0x3F800000#32))) (fill 0x43600000#32)

/-- A value of every source, for each of its targets. -/
def each (x : FVec Ideal S50176 .f32) : FVec Ideal S50176x81 .f32 :=
  broadcastInDim S50176x81 ![0, 1] bcast_S50176x1_S50176x81_0_1 (broadcastInDim S50176x1 ![0] bcast_S50176_S50176x1_0 x)

/-- A whole number of every source, for each of its targets. -/
def eachI (x : IVec S50176 32) : IVec S50176x81 32 :=
  broadcastInDim S50176x81 ![0, 1] bcast_S50176x1_S50176x81_0_1 (broadcastInDim S50176x1 ![0] bcast_S50176_S50176x1_0 x)

/-- The nine shifts, from `-4` to `4`. -/
def shifts : IVec S9 32 := addi (broadcastInDim S9 ![] bcast_S_S9 (constantI S_ 32 4294967292#32)) (iotaInDim S9 32 0)

/-- One coordinate of the 81 targets of every source. -/
def target (a : Fin S9x9.rank) (h : S9.BroadcastsInDim S9x9 (![a] : Fin 1 → Fin S9x9.rank)) (x : FVec Ideal S50176 .f32) : IVec S50176x81 32 :=
  addi (eachI (fptosi 32 (Host.floor x))) (broadcastInDim S50176x81 ![0, 1] bcast_S1x81_S50176x81_0_1
    (broadcastInDim S1x81 ![1] bcast_S81_S1x81_1 (shapeCast _ (broadcastInDim S9x9 ![a] h shifts) shapeCasts_S9x9_S81)))

/-- One coordinate of the way from a source's centre to the middle of a target. -/
def away (t : IVec S50176x81 32) (x : FVec Ideal S50176 .f32) : FVec Ideal S50176x81 .f32 :=
  subf (addf (sitofp .f32 t) (fill2 0x3F000000#32)) (each x)

/-- Whether a target lies in the image. -/
def inside (ux uy : IVec S50176x81 32) : IVec S50176x81 1 :=
  andi (andi (andi (cmpi .sge ux (fillI 0#32)) (cmpi .slt ux (fillI 224#32))) (cmpi .sge uy (fillI 0#32))) (cmpi .slt uy (fillI 224#32))

/-- The row number of a target in the image's row of pixels, zero outside the image. -/
def rows (ux uy : IVec S50176x81 32) : IVec S4064256 32 :=
  shapeCast _ (select (inside ux uy) (addi (muli uy (fillI 224#32)) ux) (broadcastInDim S50176x81 ![] bcast_S_S50176x81 (id (constantI S_ 32 0#32))))
    shapeCasts_S50176x81_S4064256

/-- The row numbers, those below zero counted from the end. -/
def wrapped (r : IVec S4064256 32) : IVec S4064256x1 32 :=
  broadcastInDim S4064256x1 ![0] bcast_S4064256_S4064256x1_0
    (select (cmpi .slt r (broadcastInDim S4064256 ![] bcast_S_S4064256 (constantI S_ 32 0#32)))
      (addi r (broadcastInDim S4064256 ![] bcast_S_S4064256 (constantI S_ 32 50176#32))) r)

/-- The Gaussian's value at every target, zero outside the image. -/
def weights (ok : IVec S50176x81 1) (a b c d : FVec Ideal S50176 .f32) (fx fy : FVec Ideal S50176x81 .f32) : FVec Ideal S50176x81 .f32 :=
  select ok (Host.exp (minimumf (subf (mulf (fill2 0xBF000000#32)
    (addf (mulf (mulf (each (Host.divf c d)) fx) fx) (mulf (mulf (each (Host.divf a d)) fy) fy)))
    (mulf (mulf (each (Host.divf (Host.negf b) d)) fx) fy)) (fill2 0x00000000#32)))
    (broadcastInDim S50176x81 ![] bcast_S_S50176x81 (id (constant S_ .f32 0x00000000#32)))

/-- What every source adds to each of its targets. -/
def parts (w : FVec Ideal S50176x81 .f32) (rgb : FVec Ideal S50176x3 .f32) : FVec Ideal S4064256x3 .f32 :=
  shapeCast _ (mulf (broadcastInDim S50176x81x3 ![0, 1, 2] bcast_S50176x81x1_S50176x81x3_0_1_2
      (broadcastInDim S50176x81x1 ![0, 1] bcast_S50176x81_S50176x81x1_0_1 w))
    (broadcastInDim S50176x81x3 ![0, 1, 2] bcast_S50176x1x3_S50176x81x3_0_1_2 (broadcastInDim S50176x1x3 ![0, 2] bcast_S50176x3_S50176x1x3_0_2 rgb)))
    shapeCasts_S50176x81x3_S4064256x3

/-- The parts added up, from zero. -/
def added (r : IVec S4064256 32) (u : FVec Ideal S4064256x3 .f32) : FVec Ideal S50176x3 .f32 :=
  Host.scatterAdd scatter_S50176x3_S4064256x1_S4064256x3_1_0_0_1 (broadcastInDim S50176x3 ![] bcast_S_S50176x3 (constant S_ .f32 0x00000000#32)) (wrapped r) u

/-- The sums, channel first, clipped to between zero and one. -/
def clipped (x : FVec Ideal S50176x3 .f32) : FVec Ideal S1x3x224x224 .f32 :=
  broadcastInDim S1x3x224x224 ![1, 2, 3] bcast_S3x224x224_S1x3x224x224_1_2_3
    (minimumf (broadcastInDim S3x224x224 ![] bcast_S_S3x224x224 (id (constant S_ .f32 0x3F800000#32)))
      (maximumf (broadcastInDim S3x224x224 ![] bcast_S_S3x224x224 (id (constant S_ .f32 0x00000000#32)))
        (transpose S3x224x224 [2, 0, 1] (shapeCast _ x shapeCasts_S50176x3_S224x224x3) transposes_S224x224x3_S3x224x224_2_0_1)))

namespace Params

variable (P : Params)

/-- The centres' columns. -/
def px : FVec Ideal S50176 .f32 := place 0 slices_S50176x2_S50176x1_0_0 P.xyz
/-- The centres' rows. -/
def py : FVec Ideal S50176 .f32 := place 1 slices_S50176x2_S50176x1_0_1 P.xyz
/-- The first scales, in pixels. -/
def sx : FVec Ideal S50176 .f32 := mulf (column 0 slices_S50176x2_S50176x1_0_0 P.scale) (fill 0x42E00000#32)
/-- The second scales, in pixels. -/
def sy : FVec Ideal S50176 .f32 := mulf (column 1 slices_S50176x2_S50176x1_0_1 P.scale) (fill 0x42E00000#32)
/-- The cosines. -/
def ct : FVec Ideal S50176 .f32 := Host.cos P.theta
/-- The sines. -/
def st : FVec Ideal S50176 .f32 := Host.sin P.theta
/-- The covariances' first diagonal entries. -/
def a : FVec Ideal S50176 .f32 := addf (mulf (mulf (mulf P.ct P.ct) P.sx) P.sx) (mulf (mulf (mulf P.st P.st) P.sy) P.sy)
/-- The covariances' entries off the diagonal. -/
def b : FVec Ideal S50176 .f32 := mulf (mulf P.ct P.st) (subf (mulf P.sx P.sx) (mulf P.sy P.sy))
/-- The covariances' second diagonal entries. -/
def c : FVec Ideal S50176 .f32 := addf (mulf (mulf (mulf P.st P.st) P.sx) P.sx) (mulf (mulf (mulf P.ct P.ct) P.sy) P.sy)
/-- The determinants. -/
def d : FVec Ideal S50176 .f32 := addf (subf (mulf P.a P.c) (mulf P.b P.b)) (fill 0x2B8CBCCC#32)
/-- The targets' columns. -/
def ux : IVec S50176x81 32 := target 0 bcast_S9_S9x9_0 P.px
/-- The targets' rows. -/
def uy : IVec S50176x81 32 := target 1 bcast_S9_S9x9_1 P.py
/-- The weights. -/
def w : FVec Ideal S50176x81 .f32 := weights (inside P.ux P.uy) P.a P.b P.c P.d (away P.ux P.px) (away P.uy P.py)
/-- The image. -/
def image : FVec Ideal S1x3x224x224 .f32 := clipped (added (rows P.ux P.uy) (parts P.w P.rgb))

end Params

/-- The reference's result: the two images one after the other. -/
theorem result_eq (V0 : Valuation τ sig (Elt Ideal)) :
    (res_main_v441 V0 : FVec Ideal S2x3x224x224 .f32) = concatenate S2x3x224x224 0
      [⟨S1x3x224x224, (params 0 slices_S2x50176x3_S1x50176x3_0_0_0 slices_S2x50176x2_S1x50176x2_0_0_0 slices_S2x50176_S1x50176_0_0 (res_main_v67 V0)).image⟩,
       ⟨S1x3x224x224, (params 1 slices_S2x50176x3_S1x50176x3_1_0_0 slices_S2x50176x2_S1x50176x2_1_0_0 slices_S2x50176_S1x50176_1_0 (res_main_v67 V0)).image⟩]
      concatenates_S1x3x224x224_S1x3x224x224_S2x3x224x224_d0 := rfl

/-! ## The values at a source -/

section Values

variable {P : Params} {q : Fin 224 → Fin 224 → Fin 8 → EReal} (H : P.Of q) (i j : Fin 224)

include H

/-- A centre's column is the source's, moved by the offset. -/
theorem px_apply : P.px (ix1 (pix i j)) = ((j.val + offX (q i j) : ℝ) : EReal) := by
  have e : P.px (ix1 (pix i j)) = Ideal.ofBits .f32 0x3F000000#32 * (P.xyz (ix2 (pix i j) (0 : Fin 2)) + Ideal.ofBits .f32 0x3F800000#32)
      * Ideal.ofBits .f32 0x43600000#32 := by
    pointwise [Params.px, place, column, fill]
  rw [e, H.x, half_eq, one_eq, n224_eq]
  simp only [← EReal.coe_mul, ← EReal.coe_add]
  congr 1
  unfold offX
  ring

/-- A centre's row is the source's, moved by the offset. -/
theorem py_apply : P.py (ix1 (pix i j)) = ((i.val + offY (q i j) : ℝ) : EReal) := by
  have e : P.py (ix1 (pix i j)) = Ideal.ofBits .f32 0x3F000000#32 * (P.xyz (ix2 (pix i j) (1 : Fin 2)) + Ideal.ofBits .f32 0x3F800000#32)
      * Ideal.ofBits .f32 0x43600000#32 := by
    pointwise [Params.py, place, column, fill]
  rw [e, H.y, half_eq, one_eq, n224_eq]
  simp only [← EReal.coe_mul, ← EReal.coe_add]
  congr 1
  unfold offY
  ring

/-- The first scale. -/
theorem sx_apply : P.sx (ix1 (pix i j)) = (scaleX (q i j) : EReal) := by
  have e : P.sx (ix1 (pix i j)) = P.scale (ix2 (pix i j) (0 : Fin 2)) * Ideal.ofBits .f32 0x42E00000#32 := by
    pointwise [Params.sx, column, fill]
  rw [e, H.scaleX, n112_eq, ← EReal.coe_mul]; rfl

/-- The second scale. -/
theorem sy_apply : P.sy (ix1 (pix i j)) = (scaleY (q i j) : EReal) := by
  have e : P.sy (ix1 (pix i j)) = P.scale (ix2 (pix i j) (1 : Fin 2)) * Ideal.ofBits .f32 0x42E00000#32 := by
    pointwise [Params.sy, column, fill]
  rw [e, H.scaleY, n112_eq, ← EReal.coe_mul]; rfl

/-- The cosine. -/
theorem ct_apply : P.ct (ix1 (pix i j)) = (Real.cos (angle (q i j)) : EReal) := by
  have e : P.ct (ix1 (pix i j)) = Ideal.cos (P.theta (ix1 (pix i j))) := rfl
  rw [e, H.theta]; rfl

/-- The sine. -/
theorem st_apply : P.st (ix1 (pix i j)) = (Real.sin (angle (q i j)) : EReal) := by
  have e : P.st (ix1 (pix i j)) = Ideal.sin (P.theta (ix1 (pix i j))) := rfl
  rw [e, H.theta]; rfl

/-- The covariance's first diagonal entry. -/
theorem a_apply : P.a (ix1 (pix i j)) = (covA (q i j) : EReal) := by
  pointwise [Params.a]
  simp only [ct_apply H, st_apply H, sx_apply H, sy_apply H, ← EReal.coe_mul, ← EReal.coe_add]
  congr 1
  unfold covA
  ring

/-- The covariance's entry off the diagonal. -/
theorem b_apply : P.b (ix1 (pix i j)) = (covB (q i j) : EReal) := by
  pointwise [Params.b]
  simp only [ct_apply H, st_apply H, sx_apply H, sy_apply H, ← EReal.coe_mul, ← EReal.coe_sub]
  rfl

/-- The covariance's second diagonal entry. -/
theorem c_apply : P.c (ix1 (pix i j)) = (covC (q i j) : EReal) := by
  pointwise [Params.c]
  simp only [ct_apply H, st_apply H, sx_apply H, sy_apply H, ← EReal.coe_mul, ← EReal.coe_add]
  congr 1
  unfold covC
  ring

/-- The determinant. -/
theorem d_apply : P.d (ix1 (pix i j)) = (det (q i j) : EReal) := by
  have e : P.d (ix1 (pix i j)) = P.a (ix1 (pix i j)) * P.c (ix1 (pix i j)) - P.b (ix1 (pix i j)) * P.b (ix1 (pix i j)) + Ideal.ofBits .f32 0x2B8CBCCC#32 := by
    pointwise [Params.d, fill]
  rw [e, a_apply H, b_apply H, c_apply H, tiny_eq]
  simp only [← EReal.coe_mul, ← EReal.coe_add, ← EReal.coe_sub]
  rfl

end Values

/-! ## The arrays at a source and a target -/

/-- Target `(u, v)` in the row of 81. -/
def slot (u v : Fin 9) : Fin 81 := ⟨9 * u.val + v.val, by omega⟩

/-- Target `m` of source `n` among all sources' targets. -/
def part (n : Fin 50176) (m : Fin 81) : Fin 4064256 := ⟨81 * n.val + m.val, by omega⟩

/-- The column of target `(u, v)`, as a word. -/
theorem target_apply_x (x : FVec Ideal S50176 .f32) (n : Fin 50176) (u v : Fin 9) :
    target 0 bcast_S9_S9x9_0 x (ix2 n (slot u v))
      = IntOp.addi (Scalar.fptosi (F := Ideal) (φ := .f32) 32 (Ideal.liftRound Int.floor (x (ix1 n)))) (IntOp.addi 4294967292#32 (BitVec.ofNat 32 u.val)) := by
  pointwise [target, eachI, shifts, slot]
  rfl

/-- The row of target `(u, v)`, as a word. -/
theorem target_apply_y (x : FVec Ideal S50176 .f32) (n : Fin 50176) (u v : Fin 9) :
    target 1 bcast_S9_S9x9_1 x (ix2 n (slot u v))
      = IntOp.addi (Scalar.fptosi (F := Ideal) (φ := .f32) 32 (Ideal.liftRound Int.floor (x (ix1 n)))) (IntOp.addi 4294967292#32 (BitVec.ofNat 32 v.val)) := by
  pointwise [target, eachI, shifts, slot]
  rfl

/-- The way from a centre to the middle of a target, at an index. -/
theorem away_apply (t : IVec S50176x81 32) (x : FVec Ideal S50176 .f32) (n : Fin 50176) (m : Fin 81) :
    away t x (ix2 n m) = Scalar.sitofp (F := Ideal) .f32 (t (ix2 n m)) + Ideal.ofBits .f32 0x3F000000#32 - x (ix1 n) := by
  pointwise [away, each, fill2]
  rfl

/-- The bounds mask at an index. -/
theorem inside_apply (ux uy : IVec S50176x81 32) (n : Fin 50176) (m : Fin 81) :
    inside ux uy (ix2 n m) = IntOp.andi (IntOp.andi (IntOp.andi (IntOp.cmpi .sge (ux (ix2 n m)) 0#32) (IntOp.cmpi .slt (ux (ix2 n m)) 224#32))
      (IntOp.cmpi .sge (uy (ix2 n m)) 0#32)) (IntOp.cmpi .slt (uy (ix2 n m)) 224#32) := by
  pointwise [inside, fillI]

/-- A row number at a source and a target. -/
theorem rows_apply (ux uy : IVec S50176x81 32) (n : Fin 50176) (m : Fin 81) :
    rows ux uy (ix1 (part n m)) = Scalar.select (inside ux uy (ix2 n m)) (IntOp.addi (IntOp.muli (uy (ix2 n m)) 224#32) (ux (ix2 n m))) 0#32 := by
  pointwise [rows, fillI, part, id]

/-- A wrapped row number at an index. -/
theorem wrapped_apply (r : IVec S4064256 32) (k : Fin 4064256) :
    wrapped r (ix2 k (0 : Fin 1)) = Scalar.select (IntOp.cmpi .slt (r (ix1 k)) 0#32) (IntOp.addi (r (ix1 k)) 50176#32) (r (ix1 k)) := by
  pointwise [wrapped]

/-- A weight at a source and a target. -/
theorem weights_apply (ok : IVec S50176x81 1) (a b c d : FVec Ideal S50176 .f32) (fx fy : FVec Ideal S50176x81 .f32) (n : Fin 50176) (m : Fin 81) :
    weights ok a b c d fx fy (ix2 n m) = Scalar.select (ok (ix2 n m)) (Ideal.exp (min (Ideal.ofBits .f32 0xBF000000#32
      * (Ideal.div (c (ix1 n)) (d (ix1 n)) * fx (ix2 n m) * fx (ix2 n m) + Ideal.div (a (ix1 n)) (d (ix1 n)) * fy (ix2 n m) * fy (ix2 n m))
      - Ideal.div (-b (ix1 n)) (d (ix1 n)) * fx (ix2 n m) * fy (ix2 n m)) 0)) (0 : EReal) := by
  pointwise [weights, each, fill2, id]

/-- A part at a source, a target and a channel. -/
theorem parts_apply (w : FVec Ideal S50176x81 .f32) (rgb : FVec Ideal S50176x3 .f32) (n : Fin 50176) (m : Fin 81) (c : Fin 3) :
    parts w rgb (ix2 (part n m) c) = w (ix2 n m) * rgb (ix2 n c) := by
  pointwise [parts, part]

/-- The clipped image at an index. -/
theorem clipped_apply (x : FVec Ideal S50176x3 .f32) (c : Fin 3) (h w : Fin 224) :
    clipped x (ix4 (0 : Fin 1) c h w) = min 1 (max 0 (x (ix2 (pix h w) c))) := by
  pointwise [clipped, pix, id]
  refine congrArg (fun n => min 1 (max 0 (x (ix2 n c)))) (Fin.ext ?_)
  show h.val * 224 + w.val = 224 * h.val + w.val
  omega

end Cert.ReferenceIdeal.Raster

end
-- ==== Proof.Scatter.lean ====
/- Adding rows into an array at given row numbers: the value at an index is a sum over all rows; and sums over a product of ranges. -/
module

public import proofs.«01_k».proof.Proof.Gen.ReferenceIdeal.Run
public import Idealize.ShloMosaic.Lib.Routing.OpsPair
public import Idealize.ShloMosaic.Lib.Pointwise

@[expose] public section

set_option maxRecDepth 16384

noncomputable section

namespace Cert.ReferenceIdeal.Raster

open Cert.ReferenceIdeal Cert.ReferenceIdeal.Gen
open Idealize.ShloMosaic

/-- A sum over `a * b` numbers by quotient and remainder. -/
theorem sum_split {M : Type} [AddCommMonoid M] {N : Nat} (a b : Nat) (hN : N = a * b) (f : Fin N → M) :
    (∑ k, f k) = ∑ x : Fin a, ∑ y : Fin b, f ⟨b * x.val + y.val, by
      have := Nat.mul_le_mul_left b (Nat.succ_le_of_lt x.isLt)
      have e : N = b * a := by rw [hN, Nat.mul_comm]
      have := y.isLt
      rw [Nat.mul_succ] at *
      omega⟩ := by
  subst hN
  rw [← Fintype.sum_prod_type', ← Equiv.sum_comp finProdFinEquiv]
  refine Finset.sum_congr rfl fun q _ => congrArg f (Fin.ext ?_)
  simp [finProdFinEquiv, add_comm]

/-- Where a row lands: the row number given for it, and its own column. -/
theorem lands (idx : IVec S4064256x1 32) (k : Fin 4064256) (e : Fin 3) (r : Fin 50176) (c : Fin 3) :
    scatter_S50176x3_S4064256x1_S4064256x3_1_0_0_1.resultIdx? (ix2 k e) idx = some (ix2 r c)
      ↔ (idx (ix2 k (0 : Fin 1))).toInt = (r.val : ℤ) ∧ e = c := by
  have s0 : scatter_S50176x3_S4064256x1_S4064256x3_1_0_0_1.start (ix2 k e) idx (0 : Fin 2) = (idx (ix2 k (0 : Fin 1))).toInt := by
    have h : scatter_S50176x3_S4064256x1_S4064256x3_1_0_0_1.siIdx (ix2 k e) ⟨0, Nat.one_pos⟩ = ix2 k (0 : Fin 1) := by
      funext a
      apply Fin.ext
      match a with
      | ⟨0, _⟩ => rfl
      | ⟨1, _⟩ => rfl
    rw [← h]
    rfl
  have s1 : scatter_S50176x3_S4064256x1_S4064256x3_1_0_0_1.start (ix2 k e) idx (1 : Fin 2) = 0 := rfl
  have w0 : scatter_S50176x3_S4064256x1_S4064256x3_1_0_0_1.window (ix2 k e) (0 : Fin 2) = 0 := rfl
  have w1 : scatter_S50176x3_S4064256x1_S4064256x3_1_0_0_1.window (ix2 k e) (1 : Fin 2) = e.val := rfl
  rw [Routing.resultIdx?_eq_some]
  constructor
  · intro h
    have h0 := h (0 : Fin 2)
    have h1 := h (1 : Fin 2)
    rw [s0, w0] at h0
    rw [s1, w1] at h1
    refine ⟨by simpa using h0, Fin.ext ?_⟩
    have h1' : (0 : ℤ) + (e.val : ℤ) = (c.val : ℤ) := h1
    omega
  · rintro ⟨h, rfl⟩ a
    match a with
    | ⟨0, _⟩ =>
      show scatter_S50176x3_S4064256x1_S4064256x3_1_0_0_1.start (ix2 k e) idx (0 : Fin 2)
        + (scatter_S50176x3_S4064256x1_S4064256x3_1_0_0_1.window (ix2 k e) (0 : Fin 2) : ℤ) = (r.val : ℤ)
      rw [s0, w0, h]; simp
    | ⟨1, _⟩ =>
      show scatter_S50176x3_S4064256x1_S4064256x3_1_0_0_1.start (ix2 k e) idx (1 : Fin 2)
        + (scatter_S50176x3_S4064256x1_S4064256x3_1_0_0_1.window (ix2 k e) (1 : Fin 2) : ℤ) = (e.val : ℤ)
      rw [s1, w1]; simp

/-- The three-column scatter at a row and a column: what was there and all the rows bound for that row. -/
theorem scatter_apply (x : FVec Ideal S50176x3 .f32) (idx : IVec S4064256x1 32) (upd : FVec Ideal S4064256x3 .f32) (r : Fin 50176) (c : Fin 3) :
    Host.scatterAdd (F := Ideal) (φ := .f32) scatter_S50176x3_S4064256x1_S4064256x3_1_0_0_1 x idx upd (ix2 r c)
      = x (ix2 r c) + ∑ k : Fin 4064256, if (idx (ix2 k (0 : Fin 1))).toInt = (r.val : ℤ) then upd (ix2 k c) else (0 : EReal) := by
  classical
  have e : Host.scatterAdd (F := Ideal) (φ := .f32) scatter_S50176x3_S4064256x1_S4064256x3_1_0_0_1 x idx upd (ix2 r c)
      = x (ix2 r c) + ∑ j ∈ Finset.univ.filter (fun j => scatter_S50176x3_S4064256x1_S4064256x3_1_0_0_1.resultIdx? j idx = some (ix2 r c)), upd j := rfl
  rw [e, Finset.sum_filter]
  refine congrArg (x (ix2 r c) + ·) ?_
  rw [sum_idx2]
  refine Finset.sum_congr rfl fun k _ => ?_
  simp only [lands]
  by_cases h : (idx (ix2 k (0 : Fin 1))).toInt = (r.val : ℤ)
  · simp only [h, true_and, if_true]
    rw [Finset.sum_ite_eq' Finset.univ c (fun e => upd (ix2 k e)), if_pos (Finset.mem_univ c)]
  · simp [h]

end Cert.ReferenceIdeal.Raster

end
-- ==== Proof.RefSplat.lean ====
/- What the reference computes: every image is the sum of its sources' weighted colours, as the specification has it. -/
module

public import proofs.«01_k».proof.Proof.RefTerms
public import proofs.«01_k».proof.Proof.Scatter
public import Idealize.ShloMosaic.Lib.WordCmp

@[expose] public section

set_option maxRecDepth 16384

noncomputable section

namespace Cert.ReferenceIdeal.Raster

open Cert.ReferenceIdeal Cert.ReferenceIdeal.Gen Cert.ReferenceIdeal.Value
open Idealize.ShloMosaic Idealize.ShloMosaic.TcCoe Cert.Splat
open Cert.KernelIdeal.Block (one_eq half_eq neg_half_eq)

/-! ## Whole numbers as words -/

/-- A whole number of moderate size, as a word and back. -/
theorem toInt_word (x : ℤ) (h0 : -100000 ≤ x) (h1 : x ≤ 100000) : (BitVec.ofInt 32 x).toInt = x := by
  rw [BitVec.toInt_ofInt]
  exact Int.bmod_eq_of_le (by omega) (by omega)

/-- Whether a word is at least zero. -/
theorem sge_word (x : ℤ) (h0 : -100000 ≤ x) (h1 : x ≤ 100000) : IntOp.cmpi .sge (BitVec.ofInt 32 x) 0#32 = BitVec.ofBool (decide (0 ≤ x)) := by
  rw [WordCmp.cmpi_sge_eq, toInt_word x h0 h1]; rfl

/-- Whether a word is below zero. -/
theorem slt_zero_word (x : ℤ) (h0 : -100000 ≤ x) (h1 : x ≤ 100000) : IntOp.cmpi .slt (BitVec.ofInt 32 x) 0#32 = BitVec.ofBool (decide (x < 0)) := by
  rw [WordCmp.cmpi_slt_eq, toInt_word x h0 h1]; rfl

/-- Whether a word is below 224. -/
theorem slt_word (x : ℤ) (h0 : -100000 ≤ x) (h1 : x ≤ 100000) : IntOp.cmpi .slt (BitVec.ofInt 32 x) 224#32 = BitVec.ofBool (decide (x < 224)) := by
  rw [WordCmp.cmpi_slt_eq, toInt_word x h0 h1]; rfl

/-- The conjunction of two decided propositions. -/
theorem and_bits (P Q : Prop) [Decidable P] [Decidable Q] :
    IntOp.andi (BitVec.ofBool (decide P)) (BitVec.ofBool (decide Q)) = BitVec.ofBool (decide (P ∧ Q)) := by
  by_cases p : P <;> by_cases q : Q <;> simp [p, q, IntOp.andi]

/-- The choice by a decided proposition. -/
theorem choose_bit {α : Type} (P : Prop) [Decidable P] (x y : α) : Scalar.select (BitVec.ofBool (decide P)) x y = if P then x else y := by
  by_cases p : P <;> simp [p, Scalar.select]

/-- The floor of a number near the image, as a word. -/
theorem floor_word (x : ℝ) (h0 : -100000 ≤ ⌊x⌋) (h1 : ⌊x⌋ ≤ 100000) :
    Scalar.fptosi (F := Ideal) (φ := .f32) 32 (Ideal.liftRound Int.floor (x : EReal)) = BitVec.ofInt 32 ⌊x⌋ := by
  have e : Scalar.fptosi (F := Ideal) (φ := .f32) 32 (Ideal.liftRound Int.floor (x : EReal))
      = BitVec.ofInt 32 (Ideal.toIntClamped (-(2 ^ (32 - 1) : Nat)) ((2 ^ (32 - 1) : Nat) - 1) ((⌊x⌋ : ℝ) : EReal)) := rfl
  rw [e, Ideal.toIntClamped_coe]
  simp only [Int.floor_intCast, Int.ceil_intCast, ite_self]
  congr 1
  omega

/-- The shift of the `u`-th target. -/
theorem shift_word (u : Fin 9) : IntOp.addi 4294967292#32 (BitVec.ofNat 32 u.val) = BitVec.ofInt 32 ((u.val : ℤ) - 4) := by
  revert u; decide

/-- One coordinate of the `u`-th target of the source at `i` with offset `q`. -/
def spot (q : ℝ) (i : Fin 224) (u : Fin 9) : ℤ := i.val + ⌊q⌋ + u.val - 4

/-- The word of a target's coordinate: the floor of the centre and the shift, added. -/
theorem spot_word (q : ℝ) (hq : -2 ≤ ⌊q⌋ ∧ ⌊q⌋ ≤ 0) (i : Fin 224) (u : Fin 9) :
    IntOp.addi (Scalar.fptosi (F := Ideal) (φ := .f32) 32 (Ideal.liftRound Int.floor ((i.val + q : ℝ) : EReal)))
      (IntOp.addi 4294967292#32 (BitVec.ofNat 32 u.val)) = BitVec.ofInt 32 (spot q i u) := by
  have f : ⌊(i.val + q : ℝ)⌋ = i.val + ⌊q⌋ := by
    rw [show (i.val + q : ℝ) = ((i.val : ℤ) : ℝ) + q by push_cast; ring, Int.floor_intCast_add]
  rw [floor_word _ (by omega) (by omega), shift_word, f]
  show BitVec.ofInt 32 _ + BitVec.ofInt 32 _ = _
  rw [← BitVec.ofInt_add]
  congr 1
  unfold spot
  ring

/-! ## One source and one target -/

section Target

variable {P : Params} {q : Fin 224 → Fin 224 → Fin 8 → EReal} (H : P.Of q) (i j : Fin 224) (u v : Fin 9)

/-- The floor of the offset along the columns. -/
theorem floor_offX (p : Fin 8 → EReal) : -2 ≤ ⌊offX p⌋ ∧ ⌊offX p⌋ ≤ 0 := floor_off (p 6)
/-- The floor of the offset along the rows. -/
theorem floor_offY (p : Fin 8 → EReal) : -2 ≤ ⌊offY p⌋ ∧ ⌊offY p⌋ ≤ 0 := floor_off (p 7)

/-- The target's column. -/
def tx (q : Fin 224 → Fin 224 → Fin 8 → EReal) (i j : Fin 224) (u : Fin 9) : ℤ := spot (offX (q i j)) j u
/-- The target's row. -/
def ty (q : Fin 224 → Fin 224 → Fin 8 → EReal) (i j : Fin 224) (v : Fin 9) : ℤ := spot (offY (q i j)) i v

omit H in
/-- How far a target's column can lie outside the image. -/
theorem tx_range (q : Fin 224 → Fin 224 → Fin 8 → EReal) : -6 ≤ tx q i j u ∧ tx q i j u ≤ 227 := by
  have := floor_offX (q i j)
  unfold tx spot
  omega

omit H in
/-- How far a target's row can lie outside the image. -/
theorem ty_range (q : Fin 224 → Fin 224 → Fin 8 → EReal) : -6 ≤ ty q i j v ∧ ty q i j v ≤ 227 := by
  have := floor_offY (q i j)
  unfold ty spot
  omega

/-- The target lies in the image. -/
def Within (q : Fin 224 → Fin 224 → Fin 8 → EReal) (i j : Fin 224) (u v : Fin 9) : Prop :=
  ((0 ≤ tx q i j u ∧ tx q i j u < 224) ∧ 0 ≤ ty q i j v) ∧ ty q i j v < 224

instance (q : Fin 224 → Fin 224 → Fin 8 → EReal) : Decidable (Within q i j u v) := by unfold Within; infer_instance

include H

/-- The word of a target's column. -/
theorem ux_apply : P.ux (ix2 (pix i j) (slot u v)) = BitVec.ofInt 32 (tx q i j u) := by
  have e : P.ux (ix2 (pix i j) (slot u v)) = _ := target_apply_x P.px (pix i j) u v
  rw [e, px_apply H]
  exact spot_word _ (floor_offX _) j u

/-- The word of a target's row. -/
theorem uy_apply : P.uy (ix2 (pix i j) (slot u v)) = BitVec.ofInt 32 (ty q i j v) := by
  have e : P.uy (ix2 (pix i j) (slot u v)) = _ := target_apply_y P.py (pix i j) u v
  rw [e, py_apply H]
  exact spot_word _ (floor_offY _) i v

/-- The bit that says whether a target lies in the image. -/
theorem within_apply : inside P.ux P.uy (ix2 (pix i j) (slot u v)) = BitVec.ofBool (decide (Within q i j u v)) := by
  have hx := tx_range i j u q
  have hy := ty_range i j v q
  rw [inside_apply, ux_apply H, uy_apply H, sge_word _ (by omega) (by omega), slt_word _ (by omega) (by omega), sge_word _ (by omega) (by omega),
    slt_word _ (by omega) (by omega), and_bits, and_bits, and_bits]
  rfl

/-- The target's row number, read as a whole number. -/
theorem row_apply : (wrapped (rows P.ux P.uy) (ix2 (part (pix i j) (slot u v)) (0 : Fin 1))).toInt
    = if Within q i j u v then 224 * ty q i j v + tx q i j u else 0 := by
  have hx := tx_range i j u q
  have hy := ty_range i j v q
  have e : rows P.ux P.uy (ix1 (part (pix i j) (slot u v))) = BitVec.ofInt 32 (if Within q i j u v then 224 * ty q i j v + tx q i j u else 0) := by
    rw [rows_apply, within_apply H, choose_bit, ux_apply H, uy_apply H]
    split
    · show BitVec.ofInt 32 _ * BitVec.ofInt 32 224 + BitVec.ofInt 32 _ = _
      rw [← BitVec.ofInt_mul, ← BitVec.ofInt_add, Int.mul_comm]
    · rfl
  have r : 0 ≤ (if Within q i j u v then 224 * ty q i j v + tx q i j u else 0) ∧ (if Within q i j u v then 224 * ty q i j v + tx q i j u else 0) ≤ 100000 := by
    by_cases h : Within q i j u v
    · have h' := h
      unfold Within at h'
      rw [if_pos h]; omega
    · rw [if_neg h]; omega
  rw [wrapped_apply, e]
  generalize (if Within q i j u v then 224 * ty q i j v + tx q i j u else 0) = k at r
  rw [slt_zero_word k (by omega) (by omega), choose_bit, if_neg (by omega), toInt_word k (by omega) (by omega)]

/-- The Gaussian's value at the target. -/
theorem w_apply : P.w (ix2 (pix i j) (slot u v)) = if Within q i j u v
    then (bell (q i j) (tx q i j u + 1 / 2 - (j.val + offX (q i j))) (ty q i j v + 1 / 2 - (i.val + offY (q i j))) : EReal) else 0 := by
  have hx := tx_range i j u q
  have hy := ty_range i j v q
  have hfx : away P.ux P.px (ix2 (pix i j) (slot u v)) = ((tx q i j u + 1 / 2 - (j.val + offX (q i j)) : ℝ) : EReal) := by
    have s : Scalar.sitofp (F := Ideal) .f32 (BitVec.ofInt 32 (tx q i j u)) = ((tx q i j u : ℝ) : EReal) := by
      show (((BitVec.ofInt 32 (tx q i j u)).toInt : ℝ) : EReal) = _
      rw [toInt_word _ (by omega) (by omega)]
    rw [away_apply, ux_apply H, px_apply H, s, half_eq, ← EReal.coe_add, ← EReal.coe_sub]
  have hfy : away P.uy P.py (ix2 (pix i j) (slot u v)) = ((ty q i j v + 1 / 2 - (i.val + offY (q i j)) : ℝ) : EReal) := by
    have s : Scalar.sitofp (F := Ideal) .f32 (BitVec.ofInt 32 (ty q i j v)) = ((ty q i j v : ℝ) : EReal) := by
      show (((BitVec.ofInt 32 (ty q i j v)).toInt : ℝ) : EReal) = _
      rw [toInt_word _ (by omega) (by omega)]
    rw [away_apply, uy_apply H, py_apply H, s, half_eq, ← EReal.coe_add, ← EReal.coe_sub]
  have hd : det (q i j) ≠ 0 := (det_pos (q i j)).ne'
  have e : P.w (ix2 (pix i j) (slot u v)) = _ :=
    weights_apply (inside P.ux P.uy) P.a P.b P.c P.d (away P.ux P.px) (away P.uy P.py) (pix i j) (slot u v)
  rw [e, within_apply H, choose_bit, hfx, hfy, a_apply H, b_apply H, c_apply H, d_apply H, neg_half_eq]
  refine if_congr Iff.rfl ?_ rfl
  rw [← EReal.coe_neg, Ideal.div_coe hd, Ideal.div_coe hd, Ideal.div_coe hd]
  simp only [← EReal.coe_mul, ← EReal.coe_add, ← EReal.coe_sub]
  rw [← EReal.coe_zero, ← EReal.coe_strictMono.monotone.map_min, Ideal.exp_coe]
  unfold bell form
  simp only [mul_one_div]

/-- What the target adds to a pixel and channel: the source's weighted colour where the target is that pixel. -/
theorem term_apply (h w : Fin 224) (ch : Fin 3) :
    (if (wrapped (rows P.ux P.uy) (ix2 (part (pix i j) (slot u v)) (0 : Fin 1))).toInt = ((pix h w).val : ℤ)
      then parts P.w P.rgb (ix2 (part (pix i j) (slot u v)) ch) else 0)
    = if tx q i j u = w.val then (if ty q i j v = h.val then
        (bell (q i j) (((w.val : ℤ) - j.val : ℤ) + 1 / 2 - offX (q i j)) (((h.val : ℤ) - i.val : ℤ) + 1 / 2 - offY (q i j)) : EReal)
          * q i j ⟨ch.val, by omega⟩ else 0) else 0 := by
  have hx := tx_range i j u q
  have hy := ty_range i j v q
  have hp : ((pix h w).val : ℤ) = 224 * h.val + w.val := by simp [pix]
  rw [row_apply H, parts_apply, w_apply H, H.rgb, hp]
  by_cases hw : Within q i j u v
  · rw [if_pos hw, if_pos hw]
    unfold Within at hw
    by_cases h1 : tx q i j u = w.val
    · by_cases h2 : ty q i j v = h.val
      · rw [if_pos h1, if_pos h2, if_pos (by omega)]
        refine congrArg (fun x : ℝ => (x : EReal) * _) ?_
        rw [h1, h2]
        congr 1 <;> push_cast <;> ring
      · rw [if_pos h1, if_neg h2, if_neg (by omega)]
    · rw [if_neg h1, if_neg (by omega)]
  · rw [if_neg hw, if_neg hw, zero_mul, ite_self]
    unfold Within at hw
    by_cases h1 : tx q i j u = w.val
    · by_cases h2 : ty q i j v = h.val
      · exact (hw (by omega)).elim
      · rw [if_pos h1, if_neg h2]
    · rw [if_neg h1]

end Target

/-! ## The sum over the targets -/

/-- Of the nine targets one is the wanted one, when it is near. -/
theorem sum_spots (q : ℝ) (i d : Fin 224) (a : EReal) :
    (∑ u : Fin 9, if spot q i u = d.val then a else 0) = if Near q ((d.val : ℤ) - i.val) then a else 0 := by
  by_cases h : Near q ((d.val : ℤ) - i.val)
  · rw [if_pos h]
    unfold Near at h
    have e : ∀ u : Fin 9, (spot q i u = d.val) ↔ u = ⟨((d.val : ℤ) - i.val - ⌊q⌋ + 4).toNat, by omega⟩ := by
      intro u
      rw [Fin.ext_iff]
      unfold spot
      show _ ↔ u.val = ((d.val : ℤ) - i.val - ⌊q⌋ + 4).toNat
      omega
    simp only [e, Finset.sum_ite_eq', Finset.mem_univ, if_true]
  · rw [if_neg h]
    refine Finset.sum_eq_zero fun u _ => if_neg fun hu => h ?_
    unfold spot at hu
    unfold Near
    omega

/-- The parts that reach a pixel, added up. -/
theorem added_apply {P : Params} {q : Fin 224 → Fin 224 → Fin 8 → EReal} (H : P.Of q) (h w : Fin 224) (ch : Fin 3) :
    added (rows P.ux P.uy) (parts P.w P.rgb) (ix2 (pix h w) ch)
      = ∑ i : Fin 224, ∑ j : Fin 224, spread (q i j) ((w.val : ℤ) - j.val) ((h.val : ℤ) - i.val) * q i j ⟨ch.val, by omega⟩ := by
  have e : added (rows P.ux P.uy) (parts P.w P.rgb) (ix2 (pix h w) ch) = _ :=
    scatter_apply (broadcastInDim S50176x3 ![] bcast_S_S50176x3 (constant S_ .f32 0x00000000#32)) (wrapped (rows P.ux P.uy)) (parts P.w P.rgb) (pix h w) ch
  have z : (broadcastInDim S50176x3 ![] bcast_S_S50176x3 (constant (F := Ideal) S_ .f32 0x00000000#32)) (ix2 (pix h w) ch) = 0 := by
    pointwise
  rw [e, z, zero_add, sum_split 50176 81 rfl, sum_split 224 224 rfl]
  refine Finset.sum_congr rfl fun i _ => Finset.sum_congr rfl fun j _ => ?_
  rw [sum_split 9 9 rfl]
  refine (Finset.sum_congr rfl fun u _ => Finset.sum_congr rfl fun v _ => term_apply H i j u v h w ch).trans ?_
  have s : ∀ u : Fin 9, (∑ v : Fin 9, if tx q i j u = w.val then (if ty q i j v = h.val then
        (bell (q i j) (((w.val : ℤ) - j.val : ℤ) + 1 / 2 - offX (q i j)) (((h.val : ℤ) - i.val : ℤ) + 1 / 2 - offY (q i j)) : EReal)
          * q i j ⟨ch.val, by omega⟩ else 0) else 0)
      = if spot (offX (q i j)) j u = w.val then (if Near (offY (q i j)) ((h.val : ℤ) - i.val) then
        (bell (q i j) (((w.val : ℤ) - j.val : ℤ) + 1 / 2 - offX (q i j)) (((h.val : ℤ) - i.val : ℤ) + 1 / 2 - offY (q i j)) : EReal)
          * q i j ⟨ch.val, by omega⟩ else 0) else 0 := by
    intro u
    by_cases h1 : tx q i j u = w.val
    · simp only [if_pos h1]
      rw [if_pos (show spot (offX (q i j)) j u = w.val from h1)]
      exact sum_spots (offY (q i j)) i h _
    · simp only [if_neg h1, Finset.sum_const_zero]
      exact (if_neg h1).symm
  rw [Finset.sum_congr rfl fun u _ => s u, sum_spots]
  unfold spread
  by_cases n1 : Near (offX (q i j)) ((w.val : ℤ) - j.val)
  · by_cases n2 : Near (offY (q i j)) ((h.val : ℤ) - i.val)
    · rw [if_pos n1, if_pos n2, if_pos ⟨n1, n2⟩]
    · rw [if_pos n1, if_neg n2, if_neg fun c => n2 c.2, zero_mul]
  · rw [if_neg n1, if_neg fun c => n1 c.1, zero_mul]

/-- One image of the reference. -/
theorem image_apply {P : Params} {pred : Fin 8 → Fin 224 → Fin 224 → EReal} (H : P.Of fun i j n => pred n i j) (ch : Fin 3) (h w : Fin 224) :
    P.image (ix4 (0 : Fin 1) ch h w) = Splat.image pred ⟨ch.val, by omega⟩ h w := by
  have e : P.image (ix4 (0 : Fin 1) ch h w) = _ := clipped_apply (added (rows P.ux P.uy) (parts P.w P.rgb)) ch h w
  rw [e, added_apply H]
  rfl

/-- Two images one after the other. -/
def joined (x y : FVec Ideal S1x3x224x224 .f32) : FVec Ideal S2x3x224x224 .f32 :=
  concatenate S2x3x224x224 0 [⟨S1x3x224x224, x⟩, ⟨S1x3x224x224, y⟩] concatenates_S1x3x224x224_S1x3x224x224_S2x3x224x224_d0

/-- The first of two joined images. -/
theorem joined_apply_0 (x y : FVec Ideal S1x3x224x224 .f32) (ch : Fin 3) (h w : Fin 224) :
    joined x y (ix4 (0 : Fin 2) ch h w) = x (ix4 (0 : Fin 1) ch h w) := by
  pointwise [joined]

/-- The second of two joined images. -/
theorem joined_apply_1 (x y : FVec Ideal S1x3x224x224 .f32) (ch : Fin 3) (h w : Fin 224) :
    joined x y (ix4 (1 : Fin 2) ch h w) = y (ix4 (0 : Fin 1) ch h w) := by
  pointwise [joined]

/-- The reference's result at an index. -/
theorem result_apply (V0 : Valuation τ sig (Elt Ideal)) (b : Fin 2) (ch : Fin 3) (h w : Fin 224) :
    (res_main_v441 V0 : FVec Ideal S2x3x224x224 .f32) (ix4 b ch h w) = Splat.image ((inputs V0).net b) ⟨ch.val, by omega⟩ h w := by
  have q : ∀ b : Fin 2, eight (res_main_v67 V0) b = fun i j n => (inputs V0).net b n i j := fun b => by
    funext i j n
    exact pred_apply V0 b n i j
  have h0 := params_of 0 slices_S2x50176x3_S1x50176x3_0_0_0 slices_S2x50176x2_S1x50176x2_0_0_0 slices_S2x50176_S1x50176_0_0 (res_main_v67 V0)
  have h1 := params_of 1 slices_S2x50176x3_S1x50176x3_1_0_0 slices_S2x50176x2_S1x50176x2_1_0_0 slices_S2x50176_S1x50176_1_0 (res_main_v67 V0)
  rw [q] at h0 h1
  rw [result_eq]
  match b with
  | 0 => exact (joined_apply_0 _ _ ch h w).trans (image_apply h0 ch h w)
  | 1 => exact (joined_apply_1 _ _ ch h w).trans (image_apply h1 ch h w)

end Cert.ReferenceIdeal.Raster

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Array
public import proofs.«01_k».proof.Proof.RefSplat
public import Idealize.ShloMosaic.Lib.Quiescent
public import Idealize.ShloMosaic.Adequacy
public import Idealize.ShloMosaic.Init

@[expose] public section

noncomputable section

namespace Cert.Proof

open Idealize.ShloMosaic Idealize.SL.Sem

/-- The reference runs to the end, its arguments unchanged; it has no semaphores. -/
theorem reference_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From memories that agree on the arguments the reference's result is the kernel's. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    (Cert.ReferenceIdeal.Value.res_main_v441 (StableHlo.launchContents m' c) : FVec Ideal ⟨4, ![2, 3, 224, 224]⟩ .f32)
      = (Cert.KernelIdeal.Gen.dats m 0 c).arrAt 5 Cert.KernelIdeal.cfg0.N := by
  have e : Cert.ReferenceIdeal.Raster.inputs (StableHlo.launchContents m' c) = Cert.KernelIdeal.Block.inputs m c :=
    congr (congr (congr (congr (congrArg Cert.Splat.Inputs.mk (funext fun b => funext fun ci => funext fun i => funext fun j => congrFun h0 (ix4 b ci i j)))
      (funext fun f => funext fun ci => funext fun ky => funext fun kx => congrFun h1 (ix4 f ci ky kx)))
      (funext fun f => congrFun h2 (ix1 f)))
      (funext fun n => funext fun f => congrFun h3 (ix4 n f (0 : Fin 1) (0 : Fin 1))))
      (funext fun n => congrFun h4 (ix1 n))
  funext k
  rw [eq_ix4 k]
  refine (Cert.ReferenceIdeal.Raster.result_apply (StableHlo.launchContents m' c) (k 0) (k 1) (k 2) (k 3)).trans ?_
  rw [e]
  exact (Cert.KernelIdeal.Block.array_apply m c (k 0) (k 1) (k 2) (k 3)).symm

/-- Over the extended reals the kernel and the reference have equal results. -/
theorem algebraic : Cert.algebraic_KernelIdeal_ReferenceIdeal (hKernelIdeal := Cert.KernelIdeal.Gen.facts) (hReferenceIdeal := Cert.ReferenceIdeal.Gen.facts) := by
  intro m ρ m' ρ' _ hagree
  refine ⟨fun c => (Cert.KernelIdeal.Gen.dats m 0 c).arrAt 5 Cert.KernelIdeal.cfg0.N, Cert.KernelIdeal.Value.run_blocks (F := Ideal) m ρ, ?_⟩
  refine (θ_run Cert.ReferenceIdeal.defs _ _).mono (fun _ h c => ⟨(h c).1.trans ?_, (h c).2⟩) (Cert.ReferenceIdeal.Value.run (F := Ideal) m' ρ')
  obtain ⟨h0, h1, h2, h3, h4⟩ := hagree c
  exact results_eq m m' c h0 h1 h2 h3 h4

/-- Everything claimed. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, algebraic⟩

end Cert.Proof

end
